-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_ids_sorted [hPre_ids_sorted : Cert.Pre_ids_sorted.Facts] (m : (ℓ : Loc Cert.KernelIdeal.nD Cert.KernelIdeal.τ Cert.KernelIdeal.sig) → Buf (Elt Ideal) ℓ) : Prop :=
  ∀ c : Dev Cert.KernelIdeal.nD,
    (Cert.Pre_ids_sorted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_sorted [hPre_ids_sorted : Cert.Pre_ids_sorted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_sorted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_ids_sorted [hKernelIdeal : Cert.KernelIdeal.Facts] [hPre_ids_sorted : Cert.Pre_ids_sorted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_sorted m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_ids_sorted [hReferenceIdeal : Cert.ReferenceIdeal.Facts] [hPre_ids_sorted : Cert.Pre_ids_sorted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_sorted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_ids_sorted [hKernelIdeal : Cert.KernelIdeal.Facts] [hReferenceIdeal : Cert.ReferenceIdeal.Facts] [hPre_ids_sorted : Cert.Pre_ids_sorted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_sorted m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_ids_in_range : Cert.Pre_ids_in_range.Facts) (hPre_ids_sorted : Cert.Pre_ids_sorted.Facts),
    quiescent_Kernel (hKernel := hKernel) (hPre_ids_in_range := hPre_ids_in_range)
    ∧ quiescent_KernelIdeal (hKernelIdeal := hKernelIdeal) (hPre_ids_in_range := hPre_ids_in_range)
    ∧ quiescent_KernelIdeal_pre_ids_sorted (hKernelIdeal := hKernelIdeal) (hPre_ids_sorted := hPre_ids_sorted)
    ∧ quiescent_ReferenceIdeal (hReferenceIdeal := hReferenceIdeal)
    ∧ quiescent_ReferenceIdeal_pre_ids_sorted (hReferenceIdeal := hReferenceIdeal) (hPre_ids_sorted := hPre_ids_sorted)
    ∧ preserves_Kernel_KernelIdeal
    ∧ algebraic_KernelIdeal_ReferenceIdeal_pre_ids_sorted (hKernelIdeal := hKernelIdeal) (hReferenceIdeal := hReferenceIdeal) (hPre_ids_sorted := hPre_ids_sorted)
-- ==== Pre_ids_in_range.lean ====
abbrev S1000000x64 : Shape := ⟨2, ![1000000, 64]⟩
abbrev S1000000 : Shape := ⟨1, ![1000000]⟩
abbrev S16x1 : Shape := ⟨2, ![16, 1]⟩
abbrev S_ : Shape := ⟨0, ![]⟩
abbrev S1 : Shape := ⟨1, ![1]⟩

class Facts : Prop where
  bcast_S_S1000000 : S_.BroadcastsInDim S1000000 (![] : Fin 0 → Fin S1000000.rank)
  slices_S1000000_S1_999999 : S1000000.Slices ![999999] S1
  bcast_S_S1 : S_.BroadcastsInDim S1 (![] : Fin 0 → Fin S1.rank)
  bcast_S1_S1000000_0 : S1.BroadcastsInDim S1000000 (![0] : Fin 1 → Fin S1000000.rank)

variable [Facts]

def fn {F : FTy → Type} [FloatOps F] (main_arg0 : FVec F S1000000x64 .f32) (main_arg1 : IVec S1000000 32) (main_arg2 : FVec F S16x1 .f32) (main_arg3 : IVec S_ 32) : IVec S1000000 1 :=
  let main_c : IVec S_ 32 := constantI S_ 32 0#32
  let main_v0 : IVec S1000000 32 := broadcastInDim S1000000 ![] bcast_S_S1000000 main_c
  let main_v1 : IVec S1000000 1 := cmpi .sge main_arg1 main_v0
  let main_c_0 : IVec S_ 32 := constantI S_ 32 16#32
  let main_v2 : IVec S1000000 32 := broadcastInDim S1000000 ![] bcast_S_S1000000 main_c_0
  let main_v3 : IVec S1000000 1 := cmpi .slt main_arg1 main_v2
  let main_v4 : IVec S1000000 1 := andi main_v1 main_v3
  let main_v5 : IVec S1 32 := (extractStridedSlice S1 ![999999] · slices_S1000000_S1_999999) main_arg1
  let main_c_1 : IVec S_ 32 := constantI S_ 32 15#32
  let main_v6 : IVec S1 32 := broadcastInDim S1 ![] bcast_S_S1 main_c_1
  let main_v7 : IVec S1 1 := cmpi .eq main_v5 main_v6
  let main_v8 : IVec S1000000 1 := broadcastInDim S1000000 ![0] bcast_S1_S1000000_0 main_v7
  let main_v9 : IVec S1000000 1 := andi main_v4 main_v8
  main_v9
-- ==== Pre_ids_sorted.lean ====
abbrev S1000000x64 : Shape := ⟨2, ![1000000, 64]⟩
abbrev S1000000 : Shape := ⟨1, ![1000000]⟩
abbrev S16x1 : Shape := ⟨2, ![16, 1]⟩
abbrev S_ : Shape := ⟨0, ![]⟩
abbrev S1 : Shape := ⟨1, ![1]⟩
abbrev S999999 : Shape := ⟨1, ![999999]⟩
abbrev S1x1000000 : Shape := ⟨2, ![1, 1000000]⟩
abbrev S16x1000000 : Shape := ⟨2, ![16, 1000000]⟩

class Facts : Prop where
  slices_S1000000_S1_0 : S1000000.Slices ![0] S1
  slices_S1000000_S999999_0 : S1000000.Slices ![0] S999999
  concatenates_S1_S999999_S1000000_d0 : Shape.Concatenates [S1, S999999] S1000000 0
  bcast_S_S1000000 : S_.BroadcastsInDim S1000000 (![] : Fin 0 → Fin S1000000.rank)
  slices_S1000000_S1_999999 : S1000000.Slices ![999999] S1
  bcast_S_S1 : S_.BroadcastsInDim S1 (![] : Fin 0 → Fin S1.rank)
  bcast_S1_S1000000_0 : S1.BroadcastsInDim S1000000 (![0] : Fin 1 → Fin S1000000.rank)
  bcast_S_S16x1 : S_.BroadcastsInDim S16x1 (![] : Fin 0 → Fin S16x1.rank)
  bcast_S1000000_S1x1000000_1 : S1000000.BroadcastsInDim S1x1000000 (![1] : Fin 1 → Fin S1x1000000.rank)
  bcast_S1x1000000_S16x1000000_0_1 : S1x1000000.BroadcastsInDim S16x1000000 (![0, 1] : Fin 2 → Fin S16x1000000.rank)
  bcast_S16x1_S16x1000000_0_1 : S16x1.BroadcastsInDim S16x1000000 (![0, 1] : Fin 2 → Fin S16x1000000.rank)

variable [Facts]

def fn_part1 {F : FTy → Type} [FloatOps F] (main_v17 : IVec S16x1 1) (main_v19 : IVec S16x1000000 1) : IVec S16x1000000 1 :=
  let main_v20 : IVec S16x1000000 1 := broadcastInDim S16x1000000 ![0, 1] bcast_S16x1_S16x1000000_0_1 main_v17
  let main_v21 : IVec S16x1000000 1 := andi main_v19 main_v20
  main_v21

def fn {F : FTy → Type} [FloatOps F] (main_arg0 : FVec F S1000000x64 .f32) (main_arg1 : IVec S1000000 32) (main_arg2 : FVec F S16x1 .f32) (main_arg3 : IVec S_ 32) : IVec S16x1000000 1 :=
  let main_v0 : IVec S1 32 := (extractStridedSlice S1 ![0] · slices_S1000000_S1_0) main_arg1
  let main_v1 : IVec S999999 32 := (extractStridedSlice S999999 ![0] · slices_S1000000_S999999_0) main_arg1
  let main_v2 : IVec S1000000 32 := (fun a b => concatenate S1000000 0 [⟨S1, a⟩, ⟨S999999, b⟩] concatenates_S1_S999999_S1000000_d0) main_v0 main_v1
  let main_c : IVec S_ 32 := constantI S_ 32 0#32
  let main_v3 : IVec S1000000 32 := broadcastInDim S1000000 ![] bcast_S_S1000000 main_c
  let main_v4 : IVec S1000000 1 := cmpi .sge main_arg1 main_v3
  let main_c_0 : IVec S_ 32 := constantI S_ 32 16#32
  let main_v5 : IVec S1000000 32 := broadcastInDim S1000000 ![] bcast_S_S1000000 main_c_0
  let main_v6 : IVec S1000000 1 := cmpi .slt main_arg1 main_v5
  let main_v7 : IVec S1000000 1 := andi main_v4 main_v6
  let main_v8 : IVec S1 32 := (extractStridedSlice S1 ![999999] · slices_S1000000_S1_999999) main_arg1
  let main_c_1 : IVec S_ 32 := constantI S_ 32 15#32
  let main_v9 : IVec S1 32 := broadcastInDim S1 ![] bcast_S_S1 main_c_1
  let main_v10 : IVec S1 1 := cmpi .eq main_v8 main_v9
  let main_v11 : IVec S1000000 1 := broadcastInDim S1000000 ![0] bcast_S1_S1000000_0 main_v10
  let main_v12 : IVec S1000000 1 := andi main_v7 main_v11
  let main_v13 : IVec S1000000 1 := cmpi .sle main_v2 main_arg1
  let main_v14 : IVec S1000000 1 := andi main_v12 main_v13
  let main_v15 : FVec F S16x1 .f32 := Host.absf main_arg2
  let main_cst : FVec F S_ .f32 := constant S_ .f32 0x7F800000#32
  let main_v16 : FVec F S16x1 .f32 := broadcastInDim S16x1 ![] bcast_S_S16x1 main_cst
  let main_v17 : IVec S16x1 1 := cmpf .olt main_v15 main_v16
  let main_v18 : IVec S1x1000000 1 := broadcastInDim S1x1000000 ![1] bcast_S1000000_S1x1000000_1 main_v14
  let main_v19 : IVec S16x1000000 1 := broadcastInDim S16x1000000 ![0, 1] bcast_S1x1000000_S16x1000000_0_1 main_v18
  fn_part1 (F := F) main_v17 main_v19
-- ==== Kernel.lean ====
abbrev S1000000x64 : Shape := ⟨2, ![1000000, 64]⟩
abbrev S1000000 : Shape := ⟨1, ![1000000]⟩
abbrev S16x1 : Shape := ⟨2, ![16, 1]⟩
abbrev S_ : Shape := ⟨0, ![]⟩
abbrev S1000 : Shape := ⟨1, ![1000]⟩
abbrev S1 : Shape := ⟨1, ![1]⟩
abbrev S1001 : Shape := ⟨1, ![1001]⟩
abbrev S16 : Shape := ⟨1, ![16]⟩
abbrev S20000x64 : Shape := ⟨2, ![20000, 64]⟩
abbrev S1000x64 : Shape := ⟨2, ![1000, 64]⟩
abbrev S15 : Shape := ⟨1, ![15]⟩
abbrev S1x1001 : Shape := ⟨2, ![1, 1001]⟩
abbrev S15x1 : Shape := ⟨2, ![15, 1]⟩
abbrev S15x1001 : Shape := ⟨2, ![15, 1001]⟩
abbrev S1000x1x1000 : Shape := ⟨3, ![1000, 1, 1000]⟩
abbrev S1x1x1000 : Shape := ⟨3, ![1, 1, 1000]⟩
abbrev S1x1000 : Shape := ⟨2, ![1, 1000]⟩
abbrev S16x1000 : Shape := ⟨2, ![16, 1000]⟩
abbrev S1x1 : Shape := ⟨2, ![1, 1]⟩

abbrev nBuf : Space → Nat
  | .hbm => 27
  | .vmem => 13
  | .smem => 3
  | _ => 0

abbrev bufTy : (tb : Table) → Fin (tcTables nBuf tb) → BufTy
  | .hbm, ⟨0, _⟩ => ⟨S1000000x64, .f32⟩
  | .hbm, ⟨1, _⟩ => ⟨S1000000, .i32⟩
  | .hbm, ⟨2, _⟩ => ⟨S16x1, .f32⟩
  | .hbm, ⟨3, _⟩ => ⟨S_, .i32⟩
  | .hbm, ⟨4, _⟩ => ⟨S1000, .i32⟩
  | .hbm, ⟨5, _⟩ => ⟨S1, .i32⟩
  | .hbm, ⟨6, _⟩ => ⟨S16, .f32⟩
  | .hbm, ⟨7, _⟩ => ⟨S1000000x64, .f32⟩
  | .hbm, ⟨8, _⟩ => ⟨S15, .i32⟩
  | .hbm, ⟨9, _⟩ => ⟨S_, .i32⟩
  | .hbm, ⟨10, _⟩ => ⟨S15, .i32⟩
  | .hbm, ⟨11, _⟩ => ⟨S15, .i32⟩
  | .hbm, ⟨12, _⟩ => ⟨S1x1001, .i32⟩
  | .hbm, ⟨13, _⟩ => ⟨S15x1, .i32⟩
  | .hbm, ⟨14, _⟩ => ⟨S15x1001, .i32⟩
  | .hbm, ⟨15, _⟩ => ⟨S15x1001, .i32⟩
  | .hbm, ⟨16, _⟩ => ⟨S15x1001, .i1⟩
  | .hbm, ⟨17, _⟩ => ⟨S15x1001, .i32⟩
  | .hbm, ⟨18, _⟩ => ⟨S_, .i32⟩
  | .hbm, ⟨19, _⟩ => ⟨S15, .i32⟩
  | .hbm, ⟨20, _⟩ => ⟨S_, .i32⟩
  | .hbm, ⟨21, _⟩ => ⟨S15, .i32⟩
  | .hbm, ⟨22, _⟩ => ⟨S15, .i32⟩
  | .hbm, ⟨23, _⟩ => ⟨S_, .i32⟩
  | .hbm, ⟨24, _⟩ => ⟨S15, .i32⟩
  | .hbm, ⟨25, _⟩ => ⟨S1000x1x1000, .i32⟩
  | .hbm, ⟨26, _⟩ => ⟨S1000000x64, .f32⟩
  | .local _ .vmem, ⟨0, _⟩ => ⟨S20000x64, .f32⟩
  | .local _ .vmem, ⟨1, _⟩ => ⟨S20000x64, .f32⟩
  | .local _ .vmem, ⟨2, _⟩ => ⟨S20000x64, .f32⟩
  | .local _ .vmem, ⟨3, _⟩ => ⟨S20000x64, .f32⟩
  | .local _ .vmem, ⟨4, _⟩ => ⟨S1x1x1000, .i32⟩
  | .local _ .vmem, ⟨5, _⟩ => ⟨S1x1x1000, .i32⟩
  | .local _ .vmem, ⟨6, _⟩ => ⟨S16x1, .f32⟩
  | .local _ .vmem, ⟨7, _⟩ => ⟨S1000x64, .f32⟩
  | .local _ .vmem, ⟨8, _⟩ => ⟨S1000x64, .f32⟩
  | .local _ .vmem, ⟨9, _⟩ => ⟨S1000x64, .f32⟩
  | .local _ .vmem, ⟨10, _⟩ => ⟨S1000x64, .f32⟩
  | .local _ .vmem, ⟨11, _⟩ => ⟨S1000x64, .f32⟩
  | .local _ .vmem, ⟨12, _⟩ => ⟨S1000x64, .f32⟩
  | .local _ .smem, ⟨0, _⟩ => ⟨S1001, .i32⟩
  | .local _ .smem, ⟨1, _⟩ => ⟨S16, .f32⟩
  | .local _ .smem, ⟨2, _⟩ => ⟨S15, .i32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c_0 : Ref sig .tc := ⟨.hbm, 18, rfl⟩
abbrev main_v14 : Ref sig .tc := ⟨.hbm, 19, rfl⟩
abbrev main_c_1 : Ref sig .tc := ⟨.hbm, 20, rfl⟩
abbrev main_v15 : Ref sig .tc := ⟨.hbm, 21, rfl⟩
abbrev main_v16 : Ref sig .tc := ⟨.hbm, 22, rfl⟩
abbrev main_c_2 : Ref sig .tc := ⟨.hbm, 23, rfl⟩
abbrev main_v17 : Ref sig .tc := ⟨.hbm, 24, rfl⟩
abbrev main_v19 : Ref sig .tc := ⟨.hbm, 25, rfl⟩
abbrev main_v20 : Ref sig .tc := ⟨.hbm, 26, rfl⟩
abbrev main_v2 : Ref sig .tc := ⟨.smem, 0, rfl⟩
abbrev main_v18 : Ref sig .tc := ⟨.smem, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc0_stg0_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![50], ![false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c20_i32 : BitVec 32 := 20#32
  let v0 : BitVec 32 := Scalar.muli arg0 c20_i32
  let c0_i32 : BitVec 32 := 0#32
  let v1 : BitVec 32 := Scalar.addi v0 c0_i32
  let v2 : Index := Scalar.indexCast v1
  ![v2.toNat]
def k0_off2 (v3 : BitVec 32) : Fin 1 → Nat :=
  let v4 : Index := Scalar.indexCast v3
  ![v4.toNat]

def k0_chk1 (v3 : BitVec 32) : Prop :=
  (∀ a, (k0_off2 v3) a + S1.size a ≤ S16.size a)
theorem k0_off2_inb : ∀ (v3 : BitVec 32) (k0_hw1 : k0_chk1 v3), ∀ a, (k0_off2 v3) a + S1.size a ≤ S16.size a := fun v3 k0_hw1 => k0_hw1

def k0_off3 (i : grid0.Coords) : Fin 1 → Nat :=
  let arg0 : BitVec 32 := BitVec.ofNat 32 (i 0).val
  let c20_i32_3 : BitVec 32 := 20#32
  let v10 : BitVec 32 := Scalar.muli arg0 c20_i32_3
  let c1_i32 : BitVec 32 := 1#32
  let v11 : BitVec 32 := Scalar.addi v10 c1_i32
  let v12 : Index := Scalar.indexCast v11
  ![v12.toNat]
def k0_off4 (v13 : BitVec 32) : Fin 1 → Nat :=
  let v14 : Index := Scalar.indexCast v13
  ![v14.toNat]

def k0_chk2 (v13 : BitVec 32) : Prop :=
  (∀ a, (k0_off4 v13) a + S1.size a ≤ S16.size a)
theorem k0_off4_inb : ∀ (v13 : BitVec 32) (k0_hw2 : k0_chk2 v13), ∀ a, (k0_off4 v13) a + S1.size a ≤ S16.size a := fun v13 k0_hw2 => k0_hw2

def k0_off5 (i : grid0.Coords) : Fin 1 → Nat :=
  let arg0 : BitVec 32 := BitVec.ofNat 32 (i 0).val
  let c20_i32_7 : BitVec 32 := 20#32
  let v20 : BitVec 32 := Scalar.muli arg0 c20_i32_7
  let c2_i32 : BitVec 32 := 2#32
  let v21 : BitVec 32 := Scalar.addi v20 c2_i32
  let v22 : Index := Scalar.indexCast v21
  ![v22.toNat]
def k0_off6 (v23 : BitVec 32) : Fin 1 → Nat :=
  let v24 : Index := Scalar.indexCast v23
  ![v24.toNat]

def k0_chk3 (v23 : BitVec 32) : Prop :=
  (∀ a, (k0_off6 v23) a + S1.size a ≤ S16.size a)
theorem k0_off6_inb : ∀ (v23 : BitVec 32) (k0_hw3 : k0_chk3 v23), ∀ a, (k0_off6 v23) a + S1.size a ≤ S16.size a := fun v23 k0_hw3 => k0_hw3

def k0_off7 (i : grid0.Coords) : Fin 1 → Nat :=
  let arg0 : BitVec 32 := BitVec.ofNat 32 (i 0).val
  let c20_i32_11 : BitVec 32 := 20#32
  let v30 : BitVec 32 := Scalar.muli arg0 c20_i32_11
  let c3_i32 : BitVec 32 := 3#32
  let v31 : BitVec 32 := Scalar.addi v30 c3_i32
  let v32 : Index := Scalar.indexCast v31
  ![v32.toNat]
def k0_off8 (v33 : BitVec 32) : Fin 1 → Nat :=
  let v34 : Index := Scalar.indexCast v33
  ![v34.toNat]

def k0_chk4 (v33 : BitVec 32) : Prop :=
  (∀ a, (k0_off8 v33) a + S1.size a ≤ S16.size a)
theorem k0_off8_inb : ∀ (v33 : BitVec 32) (k0_hw4 : k0_chk4 v33), ∀ a, (k0_off8 v33) a + S1.size a ≤ S16.size a := fun v33 k0_hw4 => k0_hw4

def k0_off9 (i : grid0.Coords) : Fin 1 → Nat :=
  let arg0 : BitVec 32 := BitVec.ofNat 32 (i 0).val
  let c20_i32_15 : BitVec 32 := 20#32
  let v40 : BitVec 32 := Scalar.muli arg0 c20_i32_15
  let c4_i32 : BitVec 32 := 4#32
  let v41 : BitVec 32 := Scalar.addi v40 c4_i32
  let v42 : Index := Scalar.indexCast v41
  ![v42.toNat]
def k0_off10 (v43 : BitVec 32) : Fin 1 → Nat :=
  let v44 : Index := Scalar.indexCast v43
  ![v44.toNat]

def k0_chk5 (v43 : BitVec 32) : Prop :=
  (∀ a, (k0_off10 v43) a + S1.size a ≤ S16.size a)
theorem k0_off10_inb : ∀ (v43 : BitVec 32) (k0_hw5 : k0_chk5 v43), ∀ a, (k0_off10 v43) a + S1.size a ≤ S16.size a := fun v43 k0_hw5 => k0_hw5

def k0_off11 (i : grid0.Coords) : Fin 1 → Nat :=
  let arg0 : BitVec 32 := BitVec.ofNat 32 (i 0).val
  let c20_i32_19 : BitVec 32 := 20#32
  let v50 : BitVec 32 := Scalar.muli arg0 c20_i32_19
  let c5_i32 : BitVec 32 := 5#32
  let v51 : BitVec 32 := Scalar.addi v50 c5_i32
  let v52 : Index := Scalar.indexCast v51
  ![v52.toNat]
def k0_off12 (v53 : BitVec 32) : Fin 1 → Nat :=
  let v54 : Index := Scalar.indexCast v53
  ![v54.toNat]

def k0_chk6 (v53 : BitVec 32) : Prop :=
  (∀ a, (k0_off12 v53) a + S1.size a ≤ S16.size a)
theorem k0_off12_inb : ∀ (v53 : BitVec 32) (k0_hw6 : k0_chk6 v53), ∀ a, (k0_off12 v53) a + S1.size a ≤ S16.size a := fun v53 k0_hw6 => k0_hw6

def k0_off13 (i : grid0.Coords) : Fin 1 → Nat :=
  let arg0 : BitVec 32 := BitVec.ofNat 32 (i 0).val
  let c20_i32_23 : BitVec 32 := 20#32
  let v60 : BitVec 32 := Scalar.muli arg0 c20_i32_23
  let c6_i32 : BitVec 32 := 6#32
  let v61 : BitVec 32 := Scalar.addi v60 c6_i32
  let v62 : Index := Scalar.indexCast v61
  ![v62.toNat]
def k0_off14 (v63 : BitVec 32) : Fin 1 → Nat :=
  let v64 : Index := Scalar.indexCast v63
  ![v64.toNat]

def k0_chk7 (v63 : BitVec 32) : Prop :=
  (∀ a, (k0_off14 v63) a + S1.size a ≤ S16.size a)
theorem k0_off14_inb : ∀ (v63 : BitVec 32) (k0_hw7 : k0_chk7 v63), ∀ a, (k0_off14 v63) a + S1.size a ≤ S16.size a := fun v63 k0_hw7 => k0_hw7

def k0_off15 (i : grid0.Coords) : Fin 1 → Nat :=
  let arg0 : BitVec 32 := BitVec.ofNat 32 (i 0).val
  let c20_i32_27 : BitVec 32 := 20#32
  let v70 : BitVec 32 := Scalar.muli arg0 c20_i32_27
  let c7_i32 : BitVec 32 := 7#32
  let v71 : BitVec 32 := Scalar.addi v70 c7_i32
  let v72 : Index := Scalar.indexCast v71
  ![v72.toNat]
def k0_off16 (v73 : BitVec 32) : Fin 1 → Nat :=
  let v74 : Index := Scalar.indexCast v73
  ![v74.toNat]

def k0_chk8 (v73 : BitVec 32) : Prop :=
  (∀ a, (k0_off16 v73) a + S1.size a ≤ S16.size a)
theorem k0_off16_inb : ∀ (v73 : BitVec 32) (k0_hw8 : k0_chk8 v73), ∀ a, (k0_off16 v73) a + S1.size a ≤ S16.size a := fun v73 k0_hw8 => k0_hw8

def k0_off17 (i : grid0.Coords) : Fin 1 → Nat :=
  let arg0 : BitVec 32 := BitVec.ofNat 32 (i 0).val
  let c20_i32_31 : BitVec 32 := 20#32
  let v80 : BitVec 32 := Scalar.muli arg0 c20_i32_31
  let c8_i32 : BitVec 32 := 8#32
  let v81 : BitVec 32 := Scalar.addi v80 c8_i32
  let v82 : Index := Scalar.indexCast v81
  ![v82.toNat]
def k0_off18 (v83 : BitVec 32) : Fin 1 → Nat :=
  let v84 : Index := Scalar.indexCast v83
  ![v84.toNat]

def k0_chk9 (v83 : BitVec 32) : Prop :=
  (∀ a, (k0_off18 v83) a + S1.size a ≤ S16.size a)
theorem k0_off18_inb : ∀ (v83 : BitVec 32) (k0_hw9 : k0_chk9 v83), ∀ a, (k0_off18 v83) a + S1.size a ≤ S16.size a := fun v83 k0_hw9 => k0_hw9

def k0_off19 (i : grid0.Coords) : Fin 1 → Nat :=
  let arg0 : BitVec 32 := BitVec.ofNat 32 (i 0).val
  let c20_i32_35 : BitVec 32 := 20#32
  let v90 : BitVec 32 := Scalar.muli arg0 c20_i32_35
  let c9_i32 : BitVec 32 := 9#32
  let v91 : BitVec 32 := Scalar.addi v90 c9_i32
  let v92 : Index := Scalar.indexCast v91
  ![v92.toNat]
def k0_off20 (v93 : BitVec 32) : Fin 1 → Nat :=
  let v94 : Index := Scalar.indexCast v93
  ![v94.toNat]

def k0_chk10 (v93 : BitVec 32) : Prop :=
  (∀ a, (k0_off20 v93) a + S1.size a ≤ S16.size a)
theorem k0_off20_inb : ∀ (v93 : BitVec 32) (k0_hw10 : k0_chk10 v93), ∀ a, (k0_off20 v93) a + S1.size a ≤ S16.size a := fun v93 k0_hw10 => k0_hw10

def k0_off21 (i : grid0.Coords) : Fin 1 → Nat :=
  let arg0 : BitVec 32 := BitVec.ofNat 32 (i 0).val
  let c20_i32_39 : BitVec 32 := 20#32
  let v100 : BitVec 32 := Scalar.muli arg0 c20_i32_39
  let c10_i32 : BitVec 32 := 10#32
  let v101 : BitVec 32 := Scalar.addi v100 c10_i32
  let v102 : Index := Scalar.indexCast v101
  ![v102.toNat]
def k0_off22 (v103 : BitVec 32) : Fin 1 → Nat :=
  let v104 : Index := Scalar.indexCast v103
  ![v104.toNat]

def k0_chk11 (v103 : BitVec 32) : Prop :=
  (∀ a, (k0_off22 v103) a + S1.size a ≤ S16.size a)
theorem k0_off22_inb : ∀ (v103 : BitVec 32) (k0_hw11 : k0_chk11 v103), ∀ a, (k0_off22 v103) a + S1.size a ≤ S16.size a := fun v103 k0_hw11 => k0_hw11

def k0_off23 (i : grid0.Coords) : Fin 1 → Nat :=
  let arg0 : BitVec 32 := BitVec.ofNat 32 (i 0).val
  let c20_i32_43 : BitVec 32 := 20#32
  let v110 : BitVec 32 := Scalar.muli arg0 c20_i32_43
  let c11_i32 : BitVec 32 := 11#32
  let v111 : BitVec 32 := Scalar.addi v110 c11_i32
  let v112 : Index := Scalar.indexCast v111
  ![v112.toNat]
def k0_off24 (v113 : BitVec 32) : Fin 1 → Nat :=
  let v114 : Index := Scalar.indexCast v113
  ![v114.toNat]

def k0_chk12 (v113 : BitVec 32) : Prop :=
  (∀ a, (k0_off24 v113) a + S1.size a ≤ S16.size a)
theorem k0_off24_inb : ∀ (v113 : BitVec 32) (k0_hw12 : k0_chk12 v113), ∀ a, (k0_off24 v113) a + S1.size a ≤ S16.size a := fun v113 k0_hw12 => k0_hw12

def k0_off25 (i : grid0.Coords) : Fin 1 → Nat :=
  let arg0 : BitVec 32 := BitVec.ofNat 32 (i 0).val
  let c20_i32_47 : BitVec 32 := 20#32
  let v120 : BitVec 32 := Scalar.muli arg0 c20_i32_47
  let c12_i32 : BitVec 32 := 12#32
  let v121 : BitVec 32 := Scalar.addi v120 c12_i32
  let v122 : Index := Scalar.indexCast v121
  ![v122.toNat]
def k0_off26 (v123 : BitVec 32) : Fin 1 → Nat :=
  let v124 : Index := Scalar.indexCast v123
  ![v124.toNat]

def k0_chk13 (v123 : BitVec 32) : Prop :=
  (∀ a, (k0_off26 v123) a + S1.size a ≤ S16.size a)
theorem k0_off26_inb : ∀ (v123 : BitVec 32) (k0_hw13 : k0_chk13 v123), ∀ a, (k0_off26 v123) a + S1.size a ≤ S16.size a := fun v123 k0_hw13 => k0_hw13

def k0_off27 (i : grid0.Coords) : Fin 1 → Nat :=
  let arg0 : BitVec 32 := BitVec.ofNat 32 (i 0).val
  let c20_i32_51 : BitVec 32 := 20#32
  let v130 : BitVec 32 := Scalar.muli arg0 c20_i32_51
  let c13_i32 : BitVec 32 := 13#32
  let v131 : BitVec 32 := Scalar.addi v130 c13_i32
  let v132 : Index := Scalar.indexCast v131
  ![v132.toNat]
def k0_off28 (v133 : BitVec 32) : Fin 1 → Nat :=
  let v134 : Index := Scalar.indexCast v133
  ![v134.toNat]

def k0_chk14 (v133 : BitVec 32) : Prop :=
  (∀ a, (k0_off28 v133) a + S1.size a ≤ S16.size a)
theorem k0_off28_inb : ∀ (v133 : BitVec 32) (k0_hw14 : k0_chk14 v133), ∀ a, (k0_off28 v133) a + S1.size a ≤ S16.size a := fun v133 k0_hw14 => k0_hw14

def k0_off29 (i : grid0.Coords) : Fin 1 → Nat :=
  let arg0 : BitVec 32 := BitVec.ofNat 32 (i 0).val
  let c20_i32_55 : BitVec 32 := 20#32
  let v140 : BitVec 32 := Scalar.muli arg0 c20_i32_55
  let c14_i32 : BitVec 32 := 14#32
  let v141 : BitVec 32 := Scalar.addi v140 c14_i32
  let v142 : Index := Scalar.indexCast v141
  ![v142.toNat]
def k0_off30 (v143 : BitVec 32) : Fin 1 → Nat :=
  let v144 : Index := Scalar.indexCast v143
  ![v144.toNat]

def k0_chk15 (v143 : BitVec 32) : Prop :=
  (∀ a, (k0_off30 v143) a + S1.size a ≤ S16.size a)
theorem k0_off30_inb : ∀ (v143 : BitVec 32) (k0_hw15 : k0_chk15 v143), ∀ a, (k0_off30 v143) a + S1.size a ≤ S16.size a := fun v143 k0_hw15 => k0_hw15

def k0_off31 (i : grid0.Coords) : Fin 1 → Nat :=
  let arg0 : BitVec 32 := BitVec.ofNat 32 (i 0).val
  let c20_i32_59 : BitVec 32 := 20#32
  let v150 : BitVec 32 := Scalar.muli arg0 c20_i32_59
  let c15_i32 : BitVec 32 := 15#32
  let v151 : BitVec 32 := Scalar.addi v150 c15_i32
  let v152 : Index := Scalar.indexCast v151
  ![v152.toNat]
def k0_off32 (v153 : BitVec 32) : Fin 1 → Nat :=
  let v154 : Index := Scalar.indexCast v153
  ![v154.toNat]

def k0_chk16 (v153 : BitVec 32) : Prop :=
  (∀ a, (k0_off32 v153) a + S1.size a ≤ S16.size a)
theorem k0_off32_inb : ∀ (v153 : BitVec 32) (k0_hw16 : k0_chk16 v153), ∀ a, (k0_off32 v153) a + S1.size a ≤ S16.size a := fun v153 k0_hw16 => k0_hw16

def k0_off33 (i : grid0.Coords) : Fin 1 → Nat :=
  let arg0 : BitVec 32 := BitVec.ofNat 32 (i 0).val
  let c20_i32_63 : BitVec 32 := 20#32
  let v160 : BitVec 32 := Scalar.muli arg0 c20_i32_63
  let c16_i32 : BitVec 32 := 16#32
  let v161 : BitVec 32 := Scalar.addi v160 c16_i32
  let v162 : Index := Scalar.indexCast v161
  ![v162.toNat]
def k0_off34 (v163 : BitVec 32) : Fin 1 → Nat :=
  let v164 : Index := Scalar.indexCast v163
  ![v164.toNat]

def k0_chk17 (v163 : BitVec 32) : Prop :=
  (∀ a, (k0_off34 v163) a + S1.size a ≤ S16.size a)
theorem k0_off34_inb : ∀ (v163 : BitVec 32) (k0_hw17 : k0_chk17 v163), ∀ a, (k0_off34 v163) a + S1.size a ≤ S16.size a := fun v163 k0_hw17 => k0_hw17

def k0_off35 (i : grid0.Coords) : Fin 1 → Nat :=
  let arg0 : BitVec 32 := BitVec.ofNat 32 (i 0).val
  let c20_i32_67 : BitVec 32 := 20#32
  let v170 : BitVec 32 := Scalar.muli arg0 c20_i32_67
  let c17_i32 : BitVec 32 := 17#32
  let v171 : BitVec 32 := Scalar.addi v170 c17_i32
  let v172 : Index := Scalar.indexCast v171
  ![v172.toNat]
def k0_off36 (v173 : BitVec 32) : Fin 1 → Nat :=
  let v174 : Index := Scalar.indexCast v173
  ![v174.toNat]

def k0_chk18 (v173 : BitVec 32) : Prop :=
  (∀ a, (k0_off36 v173) a + S1.size a ≤ S16.size a)
theorem k0_off36_inb : ∀ (v173 : BitVec 32) (k0_hw18 : k0_chk18 v173), ∀ a, (k0_off36 v173) a + S1.size a ≤ S16.size a := fun v173 k0_hw18 => k0_hw18

def k0_off37 (i : grid0.Coords) : Fin 1 → Nat :=
  let arg0 : BitVec 32 := BitVec.ofNat 32 (i 0).val
  let c20_i32_71 : BitVec 32 := 20#32
  let v180 : BitVec 32 := Scalar.muli arg0 c20_i32_71
  let c18_i32 : BitVec 32 := 18#32
  let v181 : BitVec 32 := Scalar.addi v180 c18_i32
  let v182 : Index := Scalar.indexCast v181
  ![v182.toNat]
def k0_off38 (v183 : BitVec 32) : Fin 1 → Nat :=
  let v184 : Index := Scalar.indexCast v183
  ![v184.toNat]

def k0_chk19 (v183 : BitVec 32) : Prop :=
  (∀ a, (k0_off38 v183) a + S1.size a ≤ S16.size a)
theorem k0_off38_inb : ∀ (v183 : BitVec 32) (k0_hw19 : k0_chk19 v183), ∀ a, (k0_off38 v183) a + S1.size a ≤ S16.size a := fun v183 k0_hw19 => k0_hw19

def k0_off39 (i : grid0.Coords) : Fin 1 → Nat :=
  let arg0 : BitVec 32 := BitVec.ofNat 32 (i 0).val
  let c20_i32_75 : BitVec 32 := 20#32
  let v190 : BitVec 32 := Scalar.muli arg0 c20_i32_75
  let c19_i32 : BitVec 32 := 19#32
  let v191 : BitVec 32 := Scalar.addi v190 c19_i32
  let v192 : Index := Scalar.indexCast v191
  ![v192.toNat]
def k0_off40 (v193 : BitVec 32) : Fin 1 → Nat :=
  let v194 : Index := Scalar.indexCast v193
  ![v194.toNat]

def k0_chk20 (v193 : BitVec 32) : Prop :=
  (∀ a, (k0_off40 v193) a + S1.size a ≤ S16.size a)
theorem k0_off40_inb : ∀ (v193 : BitVec 32) (k0_hw20 : k0_chk20 v193), ∀ a, (k0_off40 v193) a + S1.size a ≤ S16.size a := fun v193 k0_hw20 => k0_hw20

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S20000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S20000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![15], ![false]⟩

abbrev pre1 : Pipeline.Prefetch sig := ⟨1, ![main_v18.idx], fun | 0 => main_v18.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def cc1_transform_0 (k1_off1_inb : ∀ i : grid1.Coords, ∀ a, (k1_off1 i) a + S1.size a ≤ S15.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S15) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (k1_off1_inb : ∀ i : grid1.Coords, ∀ a, (k1_off1 i) a + S1.size a ≤ S15.size a) (numel1_S1 : S1.numel = 1) (pf : pre1.Contents (Elt F)) (i : grid1.Coords) : Fin 2 → Nat :=
  let arg0 : BitVec 32 := BitVec.ofNat 32 (i 0).val
  let v0 : Index := Scalar.indexCast arg0
  let v1 : BitVec 32 := pf.at 0 (Rect.unit (s := S15) ![v0.toNat] S1.size (k1_off1_inb i)) numel1_S1
  let c0_i32 : BitVec 32 := 0#32
  let c0_i32_0 : BitVec 32 := 0#32
  ![v1.toNat, c0_i32.toNat]

def cc1_transform_3 (k1_off1_inb : ∀ i : grid1.Coords, ∀ a, (k1_off1 i) a + S1.size a ≤ S15.size a) (numel1_S1 : S1.numel = 1) (pf : pre1.Contents (Elt F)) (i : grid1.Coords) : Fin 2 → Nat :=
  let arg0 : BitVec 32 := BitVec.ofNat 32 (i 0).val
  let v0 : Index := Scalar.indexCast arg0
  let v1 : BitVec 32 := pf.at 0 (Rect.unit (s := S15) ![v0.toNat] S1.size (k1_off1_inb i)) numel1_S1
  let c0_i32 : BitVec 32 := 0#32
  let c0_i32_0 : BitVec 32 := 0#32
  ![v1.toNat, c0_i32.toNat]

def cc1_transform_4 (k1_off1_inb : ∀ i : grid1.Coords, ∀ a, (k1_off1 i) a + S1.size a ≤ S15.size a) (numel1_S1 : S1.numel = 1) (pf : pre1.Contents (Elt F)) (i : grid1.Coords) : Fin 2 → Nat :=
  let arg0 : BitVec 32 := BitVec.ofNat 32 (i 0).val
  let v0 : Index := Scalar.indexCast arg0
  let v1 : BitVec 32 := pf.at 0 (Rect.unit (s := S15) ![v0.toNat] S1.size (k1_off1_inb i)) numel1_S1
  let c0_i32 : BitVec 32 := 0#32
  let c0_i32_0 : BitVec 32 := 0#32
  ![v1.toNat, c0_i32.toNat]

abbrev stage1_0 : Fin 2 → Memref sig .tc .vmem S1x1x1000 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S1000000x64 : Shape := ⟨2, ![1000000, 64]⟩
abbrev S1000000 : Shape := ⟨1, ![1000000]⟩
abbrev S16x1 : Shape := ⟨2, ![16, 1]⟩
abbrev S_ : Shape := ⟨0, ![]⟩
abbrev S1000000x1 : Shape := ⟨2, ![1000000, 1]⟩
abbrev S1 : Shape := ⟨1, ![1]⟩
abbrev S1x1 : Shape := ⟨2, ![1, 1]⟩

abbrev nBuf : Space → Nat
  | .hbm => 29
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S1000000, .i32⟩
  | .hbm, ⟨2, _⟩ => ⟨S16x1, .f32⟩
  | .hbm, ⟨3, _⟩ => ⟨S_, .i32⟩
  | .hbm, ⟨4, _⟩ => ⟨S_, .i32⟩
  | .hbm, ⟨5, _⟩ => ⟨S1000000, .i32⟩
  | .hbm, ⟨6, _⟩ => ⟨S1000000, .i1⟩
  | .hbm, ⟨7, _⟩ => ⟨S_, .i32⟩
  | .hbm, ⟨8, _⟩ => ⟨S1000000, .i32⟩
  | .hbm, ⟨9, _⟩ => ⟨S1000000, .i32⟩
  | .hbm, ⟨10, _⟩ => ⟨S1000000, .i32⟩
  | .hbm, ⟨11, _⟩ => ⟨S1000000x1, .i32⟩
  | .hbm, ⟨12, _⟩ => ⟨S1, .i32⟩
  | .hbm, ⟨13, _⟩ => ⟨S_, .i32⟩
  | .hbm, ⟨14, _⟩ => ⟨S1000000x1, .i32⟩
  | .hbm, ⟨15, _⟩ => ⟨S1000000x1, .i1⟩
  | .hbm, ⟨16, _⟩ => ⟨S1x1, .i32⟩
  | .hbm, ⟨17, _⟩ => ⟨S1000000x1, .i32⟩
  | .hbm, ⟨18, _⟩ => ⟨S1000000x1, .i1⟩
  | .hbm, ⟨19, _⟩ => ⟨S1000000x1, .i1⟩
  | .hbm, ⟨20, _⟩ => ⟨S_, .i1⟩
  | .hbm, ⟨21, _⟩ => ⟨S1000000, .i1⟩
  | .hbm, ⟨22, _⟩ => ⟨S1000000x1, .f32⟩
  | .hbm, ⟨23, _⟩ => ⟨S1000000x1, .i1⟩
  | .hbm, ⟨24, _⟩ => ⟨S_, .f32⟩
  | .hbm, ⟨25, _⟩ => ⟨S1000000x1, .f32⟩
  | .hbm, ⟨26, _⟩ => ⟨S1000000x1, .f32⟩
  | .hbm, ⟨27, _⟩ => ⟨S1000000x64, .f32⟩
  | .hbm, ⟨28, _⟩ => ⟨S1000000x64, .f32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩

abbrev nD : Nat := 1
abbrev τ : Topo := Topo.v7x

variable {F : FTy → Type} [FloatOps F]
-- ==== Proof.Pre.lean ====
module

public import proofs.«01_k».proof.Proof.Gen.Pre_ids_in_range
public import proofs.«01_k».proof.Proof.Gen.Pre_ids_sorted
public import Idealize.ShloMosaic.Lib.ValueIdx
public import Idealize.ShloMosaic.Lib.Pipeline.Value
public import Idealize.ShloMosaic.PureOps.Ideal
public import Idealize.ShloMosaic.PureOps.Ideal.Laws

/-! What the two preconditions say, element by element. -/

@[expose] public section

set_option maxRecDepth 16384

namespace Cert.Read

open Idealize.ShloMosaic

/-- An entry of a vector of a million. -/
def at1 (n : Nat) : (⟨1, ![1000000]⟩ : Shape).Idx := ValueIdx.ix1 ⟨n % 1000000, Nat.mod_lt _ (by decide)⟩

theorem and_one {p q : BitVec 1} : IntOp.andi p q = 1#1 ↔ p = 1#1 ∧ q = 1#1 := by
  revert p q; decide

theorem ofBool_one {p : Bool} : BitVec.ofBool p = 1#1 ↔ p = true := by
  revert p; decide

theorem word_lt {x : BitVec 32} (h0 : BitVec.sle 0#32 x = true) (h1 : BitVec.slt x 16#32 = true) : x.toNat < 16 := by
  rw [BitVec.sle, decide_eq_true_eq] at h0
  rw [BitVec.slt, decide_eq_true_eq] at h1
  have e0 : (0#32 : BitVec 32).toInt = 0 := by decide
  have e1 : (16#32 : BitVec 32).toInt = 16 := by decide
  rw [e0] at h0
  rw [e1] at h1
  rw [BitVec.toInt_eq_toNat_cond] at h0 h1
  have := x.isLt
  split at h0 <;> split at h1 <;> omega

theorem word_le {x y : BitVec 32} (hx : x.toNat < 16) (hy : y.toNat < 16) (h : BitVec.sle x y = true) : x.toNat ≤ y.toNat := by
  rw [BitVec.sle, decide_eq_true_eq, BitVec.toInt_eq_toNat_cond, BitVec.toInt_eq_toNat_cond, if_pos (by omega), if_pos (by omega)] at h
  omega

/-- Whether the last entry is fifteen. -/
def lastIs (b : IVec Pre_ids_in_range.S1000000 32) : IVec Pre_ids_in_range.S1 1 :=
  cmpi .eq (extractStridedSlice Pre_ids_in_range.S1 ![999999] b Pre_ids_in_range.Facts.slices_S1000000_S1_999999)
    (broadcastInDim Pre_ids_in_range.S1 ![] Pre_ids_in_range.Facts.bcast_S_S1 (constantI Pre_ids_in_range.S_ 32 15#32))

theorem lastIs_eq (b : IVec Pre_ids_in_range.S1000000 32) (j : Pre_ids_in_range.S1.Idx) : lastIs b j = BitVec.ofBool (b (at1 999999) == 15#32) := by
  refine congrArg (fun i => BitVec.ofBool (b i == 15#32)) (funext fun (a : Fin 1) => ?_)
  obtain rfl : a = 0 := Subsingleton.elim _ _
  refine Fin.ext ?_
  have hj : (j 0).val < 1 := (j 0).isLt
  show 999999 + (j 0).val = 999999 % 1000000
  omega

section InRange

variable {F : FTy → Type} [FloatOps F]

/-- The first precondition: every segment number below sixteen, the last fifteen. -/
theorem in_range (x : FVec F Pre_ids_in_range.S1000000x64 .f32) (b : IVec Pre_ids_in_range.S1000000 32) (r : FVec F Pre_ids_in_range.S16x1 .f32)
    (d : IVec Pre_ids_in_range.S_ 32) (h : Cert.Pre_ids_in_range.fn (F := F) x b r d = fun _ => 1#1) :
    (∀ y, (b y).toNat < 16) ∧ (b (at1 999999)).toNat = 15 := by
  have key : ∀ y, (BitVec.sle 0#32 (b y) = true ∧ BitVec.slt (b y) 16#32 = true) ∧ (b (at1 999999) == 15#32) = true := by
    intro y
    have hy : IntOp.andi (IntOp.andi (BitVec.ofBool (BitVec.sle 0#32 (b y))) (BitVec.ofBool (BitVec.slt (b y) 16#32)))
        (broadcastInDim Pre_ids_in_range.S1000000 ![0] Pre_ids_in_range.Facts.bcast_S1_S1000000_0 (lastIs b) y) = 1#1 := congrFun h y
    rw [show broadcastInDim Pre_ids_in_range.S1000000 ![0] Pre_ids_in_range.Facts.bcast_S1_S1000000_0 (lastIs b) y
      = BitVec.ofBool (b (at1 999999) == 15#32) from lastIs_eq b _] at hy
    rw [and_one, and_one, ofBool_one, ofBool_one, ofBool_one] at hy
    exact hy
  refine ⟨fun y => word_lt (key y).1.1 (key y).1.2, ?_⟩
  rw [eq_of_beq (key (at1 0)).2]
  rfl

end InRange

/-- Of a row: its segment number in range and not below the one before, the last fifteen. -/
def rowOk (b : IVec Pre_ids_sorted.S1000000 32) : IVec Pre_ids_sorted.S1000000 1 :=
  andi (andi (andi (cmpi .sge b (broadcastInDim Pre_ids_sorted.S1000000 ![] Pre_ids_sorted.Facts.bcast_S_S1000000 (constantI Pre_ids_sorted.S_ 32 0#32)))
      (cmpi .slt b (broadcastInDim Pre_ids_sorted.S1000000 ![] Pre_ids_sorted.Facts.bcast_S_S1000000 (constantI Pre_ids_sorted.S_ 32 16#32))))
    (broadcastInDim Pre_ids_sorted.S1000000 ![0] Pre_ids_sorted.Facts.bcast_S1_S1000000_0 (lastIs b)))
  (cmpi .sle (concatenate Pre_ids_sorted.S1000000 0 [⟨Pre_ids_sorted.S1, extractStridedSlice Pre_ids_sorted.S1 ![0] b Pre_ids_sorted.Facts.slices_S1000000_S1_0⟩,
    ⟨Pre_ids_sorted.S999999, extractStridedSlice Pre_ids_sorted.S999999 ![0] b Pre_ids_sorted.Facts.slices_S1000000_S999999_0⟩]
    Pre_ids_sorted.Facts.concatenates_S1_S999999_S1000000_d0) b)

/-- Of a segment: its scale finite. -/
noncomputable def scaleOk (r : FVec Ideal Pre_ids_sorted.S16x1 .f32) : IVec Pre_ids_sorted.S16x1 1 :=
  cmpf .olt (Host.absf r) (broadcastInDim Pre_ids_sorted.S16x1 ![] Pre_ids_sorted.Facts.bcast_S_S16x1 (constant (F := Ideal) Pre_ids_sorted.S_ .f32 0x7F800000#32))

theorem scaleOk_eq (r : FVec Ideal Pre_ids_sorted.S16x1 .f32) (q : Pre_ids_sorted.S16x1.Idx) (h : scaleOk r q = 1#1) : ∃ v : ℝ, r q = (v : EReal) := by
  have hq : Ideal.cmp .olt (max (r q) (-(r q))) (Ideal.ofBits .f32 0x7F800000#32) = 1#1 := h
  have htop : Ideal.ofBits .f32 0x7F800000#32 = ⊤ := by simp [Ideal.ofBits, Ideal.ieee]
  rw [htop] at hq
  have hlt : max (r q) (-(r q)) < ⊤ := of_decide_eq_true (ofBool_one.1 hq)
  have h1 : r q ≠ ⊤ := ne_of_lt (lt_of_le_of_lt (le_max_left _ _) hlt)
  have h2 : r q ≠ ⊥ := fun hb => by rw [hb] at hlt; simp at hlt
  exact ⟨(r q).toReal, (EReal.coe_toReal h1 h2).symm⟩

/-- The second: besides, the segment numbers in order and every scale of a segment finite. -/
theorem sorted (x : FVec Ideal Pre_ids_sorted.S1000000x64 .f32) (b : IVec Pre_ids_sorted.S1000000 32) (r : FVec Ideal Pre_ids_sorted.S16x1 .f32)
    (d : IVec Pre_ids_sorted.S_ 32) (h : Cert.Pre_ids_sorted.fn (F := Ideal) x b r d = fun _ => 1#1) :
    ((∀ y, (b y).toNat < 16) ∧ (b (at1 999999)).toNat = 15)
      ∧ (∀ n, n + 1 < 1000000 → (b (at1 n)).toNat ≤ (b (at1 (n + 1))).toNat)
      ∧ (∀ q, ∃ v : ℝ, r q = (v : EReal)) := by
  have key : ∀ (q : Fin 16) (n : Fin 1000000),
      (((BitVec.sle 0#32 (b (ValueIdx.ix1 n)) = true ∧ BitVec.slt (b (ValueIdx.ix1 n)) 16#32 = true) ∧ (b (at1 999999) == 15#32) = true)
        ∧ BitVec.sle (b (at1 (n.val - 1))) (b (ValueIdx.ix1 n)) = true)
      ∧ scaleOk r (ValueIdx.ix2 q 0) = 1#1 := by
    intro q n
    have hc : (concatenate Pre_ids_sorted.S1000000 0 [⟨Pre_ids_sorted.S1, extractStridedSlice Pre_ids_sorted.S1 ![0] b Pre_ids_sorted.Facts.slices_S1000000_S1_0⟩,
        ⟨Pre_ids_sorted.S999999, extractStridedSlice Pre_ids_sorted.S999999 ![0] b Pre_ids_sorted.Facts.slices_S1000000_S999999_0⟩]
        Pre_ids_sorted.Facts.concatenates_S1_S999999_S1000000_d0) (ValueIdx.ix1 n) = b (at1 (n.val - 1)) := by
      have hn := n.isLt
      by_cases h0 : n.val = 0
      · rw [concatenate_pair_apply_left (t := Pre_ids_sorted.S1000000) (s₁ := Pre_ids_sorted.S1) (s₂ := Pre_ids_sorted.S999999) 0 _ _ _
          (ValueIdx.ix1 n) rfl (ValueIdx.ix1 (n := 1) ⟨0, by decide⟩)
          (fun a => by obtain rfl : a = 0 := Subsingleton.elim _ _; exact h0.symm)]
        refine congrArg b (funext fun a => ?_)
        obtain rfl : a = 0 := Subsingleton.elim _ _
        refine Fin.ext ?_
        show 0 + 0 = (n.val - 1) % 1000000
        omega
      · rw [concatenate_pair_apply_right (t := Pre_ids_sorted.S1000000) (s₁ := Pre_ids_sorted.S1) (s₂ := Pre_ids_sorted.S999999) 0 _ _ _
          (ValueIdx.ix1 n) rfl rfl (ValueIdx.ix1 (n := 999999) ⟨n.val - 1, by omega⟩)
          (fun a ha => absurd (Subsingleton.elim _ _) ha)
          (by show n.val - 1 + 1 = n.val; omega)]
        refine congrArg b (funext fun a => ?_)
        obtain rfl : a = 0 := Subsingleton.elim _ _
        refine Fin.ext ?_
        show 0 + (n.val - 1) = (n.val - 1) % 1000000
        omega
    have hrow : broadcastInDim Pre_ids_sorted.S16x1000000 ![0, 1] Pre_ids_sorted.Facts.bcast_S1x1000000_S16x1000000_0_1
        (broadcastInDim Pre_ids_sorted.S1x1000000 ![1] Pre_ids_sorted.Facts.bcast_S1000000_S1x1000000_1 (rowOk b)) (ValueIdx.ix2 q n) = rowOk b (ValueIdx.ix1 n) := by
      refine congrArg (rowOk b) (funext fun (a : Fin 1) => ?_)
      obtain rfl : a = 0 := Subsingleton.elim _ _
      rfl
    have hsc : broadcastInDim Pre_ids_sorted.S16x1000000 ![0, 1] Pre_ids_sorted.Facts.bcast_S16x1_S16x1000000_0_1 (scaleOk r) (ValueIdx.ix2 q n)
        = scaleOk r (ValueIdx.ix2 q 0) := by
      refine congrArg (scaleOk r) (funext fun (a : Fin 2) => ?_)
      match a with
      | ⟨0, _⟩ => rfl
      | ⟨1, _⟩ => rfl
    have hy : IntOp.andi (rowOk b (ValueIdx.ix1 n)) (scaleOk r (ValueIdx.ix2 q 0)) = 1#1 := by
      rw [← hrow, ← hsc]
      exact congrFun h (ValueIdx.ix2 q n)
    have hr : rowOk b (ValueIdx.ix1 n) = IntOp.andi (IntOp.andi (IntOp.andi (BitVec.ofBool (BitVec.sle 0#32 (b (ValueIdx.ix1 n)))) (BitVec.ofBool (BitVec.slt (b (ValueIdx.ix1 n)) 16#32)))
        (BitVec.ofBool (b (at1 999999) == 15#32)))
        (BitVec.ofBool (BitVec.sle (b (at1 (n.val - 1))) (b (ValueIdx.ix1 n)))) := by
      rw [← hc, ← show broadcastInDim Pre_ids_sorted.S1000000 ![0] Pre_ids_sorted.Facts.bcast_S1_S1000000_0 (lastIs b) (ValueIdx.ix1 n)
        = BitVec.ofBool (b (at1 999999) == 15#32) from lastIs_eq b _]
      rfl
    rw [hr] at hy
    rw [and_one, and_one, and_one, and_one, ofBool_one, ofBool_one, ofBool_one, ofBool_one] at hy
    exact hy
  have hlt : ∀ y, (b y).toNat < 16 := fun y => by
    rw [ValueIdx.eq_ix1 y]
    exact word_lt (key 0 (y 0)).1.1.1.1 (key 0 (y 0)).1.1.1.2
  refine ⟨⟨hlt, ?_⟩, fun n hn => ?_, fun q => ?_⟩
  · rw [eq_of_beq (key 0 0).1.1.2]
    rfl
  · have e : (ValueIdx.ix1 ⟨n + 1, hn⟩ : (⟨1, ![1000000]⟩ : Shape).Idx) = at1 (n + 1) := by
      unfold at1
      congr 1
      exact Fin.ext (Nat.mod_eq_of_lt hn).symm
    have := (key 0 ⟨n + 1, hn⟩).1.2
    rw [e] at this
    exact word_le (hlt _) (hlt _) this
  · have hq := (key (q 0) 0).2
    have e : (ValueIdx.ix2 (q 0) 0 : (⟨2, ![16, 1]⟩ : Shape).Idx) = q := by
      rw [ValueIdx.eq_ix2 q]
      congr 1
      exact Subsingleton.elim _ _
    rw [e] at hq
    exact scaleOk_eq r q hq

end Cert.Read
-- ==== Proof.Ideal.Body0.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.ValueIdxCore

/-! # The scaling call at one grid point

Twenty sub-blocks of a thousand rows, each multiplied by the one factor its table entry names. The run below
states the finished block outright: row `r` of the block is the input's row times the factor of entry `20 i + r / 1000`. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

/-- The table of call 0, as a memref, -/
abbrev tab0 : Memref sig .tc .smem S1001 .i32 := Memref.whole main_v2
abbrev htab0 : tab0.IsWhole := Memref.isWhole_whole _

/-- what a table's memref holds on a core, -/
abbrev TabBuf (c : Dev nD) {S : Shape} {e : EltTy} (M : Memref sig .tc .smem S e) : Type := Buf (Elt F) (M.view.loc (c : Thread nD τ))

/-- and the whole of it owned at those contents. -/
abbrev tabPt (c : Dev nD) {S : Shape} {e : EltTy} (M : Memref sig .tc .smem S e) (f : TabBuf (F := F) c M) : sProp 𝕄 :=
  M.view.loc (c : Thread nD τ) ↦{fullShare} f

theorem chk_of_lt (off : Fin 1 → Nat) (v : BitVec 32) (ho : off = ![(Scalar.indexCast v).toNat]) (h : v.toNat < 16) :
    ∀ a, off a + S1.size a ≤ S16.size a := by
  subst ho
  intro a
  match a with
  | ⟨0, _⟩ => show (Scalar.indexCast v).toNat + 1 ≤ 16; exact (h : v.toNat + 1 ≤ 16)

/-- Entry `n` of the table. -/
def tIdx (n : Nat) : S1001.Idx := fun a => ⟨n % 1001, by match a with | ⟨0, _⟩ => exact Nat.mod_lt _ (by decide)⟩

/-- Factor `n` of the sixteen. -/
def rIdx (n : Nat) : S16.Idx := fun a => ⟨n % 16, by match a with | ⟨0, _⟩ => exact Nat.mod_lt _ (by decide)⟩

/-- The block the call leaves at grid point `i`. -/
def out0 (i : grid0.Coords) (x0 : Vec F S16 .f32) (x1 : Vec F S20000x64 .f32) (xt : S1001.Idx → BitVec 32) : Vec F S20000x64 .f32 :=
  fun y => FloatOps.mulf (x1 y) (x0 (rIdx (xt (tIdx (20 * (i 0).val + (y 0).val / 1000))).toNat))

/-- One sub-block's payload is the finished block there. -/
theorem piece0 (i : grid0.Coords) (x0 : Vec F S16 .f32) (x1 : Vec F S20000x64 .f32) (xt : S1001.Idx → BitVec 32)
    (hT : ∀ j, (xt j).toNat < 16) (s : Nat) (hs : s < 20) (inb : ∀ a, (![1000 * s, 0] : Fin 2 → Nat) a + S1000x64.size a ≤ S20000x64.size a)
    (x : S1000x64.Idx) (off : Fin 1 → Nat) (ho : off = ![20 * (i 0).val + s]) (oinb : ∀ a, off a + S1.size a ≤ S1001.size a)
    (j : (Rect.unit (s := S1001) off S1.size oinb).shape.Idx)
    (off' : Fin 1 → Nat) (ho' : off' = ![(Scalar.indexCast (xt ((Rect.unit (s := S1001) off S1.size oinb).toLoadRect.idx j))).toNat])
    (oinb' : ∀ a, off' a + S1.size a ≤ S16.size a) (j' : (Rect.unit (s := S16) off' S1.size oinb').shape.Idx)
    (y : S20000x64.Idx) (hy : y = (Rect.unit (s := S20000x64) ![1000 * s, 0] S1000x64.size inb).emb x) :
    FloatOps.mulf (x1 y) (x0 ((Rect.unit (s := S16) off' S1.size oinb').toLoadRect.idx j')) = out0 i x0 x1 xt y := by
  have hi : (i 0).val < 50 := (i 0).isLt
  have hj : (j 0).val = 0 := Nat.lt_one_iff.mp (j 0).isLt
  have hj' : (j' 0).val = 0 := Nat.lt_one_iff.mp (j' 0).isLt
  have e1 : (Rect.unit (s := S1001) off S1.size oinb).toLoadRect.idx j = tIdx (20 * (i 0).val + s) := by
    funext a; match a with
    | ⟨0, _⟩ =>
      apply Fin.ext
      show off 0 + 1 * (j 0).val = (20 * (i 0).val + s) % 1001
      rw [hj, ho, Nat.mod_eq_of_lt (by omega)]; rfl
  rw [e1] at ho'
  have hv := hT (tIdx (20 * (i 0).val + s))
  have e2 : (Rect.unit (s := S16) off' S1.size oinb').toLoadRect.idx j' = rIdx (xt (tIdx (20 * (i 0).val + s))).toNat := by
    funext a; match a with
    | ⟨0, _⟩ =>
      apply Fin.ext
      show off' 0 + 1 * (j' 0).val = (xt (tIdx (20 * (i 0).val + s))).toNat % 16
      rw [hj', ho', Nat.mod_eq_of_lt hv]; rfl
  have e3 : (y 0).val / 1000 = s := by
    have hx : (x 0).val < 1000 := (x 0).isLt
    have : (y 0).val = 1000 * s + 1 * (x 0).val := by rw [hy]; rfl
    omega
  unfold out0
  rw [e2, e3]

/-- The same, of the words as the run reads them. -/
theorem piece (c : Dev nD) (i : grid0.Coords) (arg2 : Memref sig .tc .smem S16 .f32) (harg2 : arg2.IsWhole) (arg3 : Memref sig .tc .vmem S20000x64 .f32) (harg3 : arg3.IsWhole)
    (x0 : Vec F S16 .f32) (x1 : Vec F S20000x64 .f32) (xt : TabBuf (F := F) c tab0)
    (hT : ∀ j : S1001.Idx, BitVec.toNat (w := 32) (xt j) < 16) (s : Nat) (hs : s < 20) (inb : ∀ a, (![1000 * s, 0] : Fin 2 → Nat) a + S1000x64.size a ≤ S20000x64.size a)
    (x : S1000x64.Idx) (off : Fin 1 → Nat) (ho : off = ![20 * (i 0).val + s]) (oinb : ∀ a, off a + S1.size a ≤ S1001.size a)
    (j : (Rect.unit (s := S1001) off S1.size oinb).shape.Idx)
    (off' : Fin 1 → Nat) (ho' : off' = ![(Scalar.indexCast (tab0.view.readAt (Elt F) (Rect.unit (s := S1001) off S1.size oinb).toLoadRect xt j)).toNat])
    (oinb' : ∀ a, off' a + S1.size a ≤ S16.size a) (j' : (Rect.unit (s := S16) off' S1.size oinb').shape.Idx) :
    FloatOps.mulf (arg3.view.readAt (Elt F) (Rect.unit (s := S20000x64) ![1000 * s, 0] S1000x64.size inb).toLoadRect (harg3.unread x1) x)
        (arg2.view.readAt (Elt F) (Rect.unit (s := S16) off' S1.size oinb').toLoadRect (harg2.unread x0) j')
      = out0 i x0 x1 xt ((Rect.unit (s := S20000x64) ![1000 * s, 0] S1000x64.size inb).emb x) := by
  rw [View.readAt_apply, View.readAt_apply, harg2.read_unread, harg3.read_unread]
  exact piece0 i x0 x1 xt hT s hs inb x off ho oinb j off' ho' oinb' j' _ rfl

set_option maxHeartbeats 2000000 in
/-- The body of call 0 on whole staging memrefs: from the table and the two inputs, the finished block. -/
theorem run0 (c : Dev nD) (i : grid0.Coords) (arg2 : Memref sig .tc .smem S16 .f32) (harg2 : arg2.IsWhole) (arg3 : Memref sig .tc .vmem S20000x64 .f32) (harg3 : arg3.IsWhole) (arg4 : Memref sig .tc .vmem S20000x64 .f32) (harg4 : arg4.IsWhole)
    (x0 : Vec F S16 .f32) (x1 : Vec F S20000x64 .f32) (xt : TabBuf (F := F) c tab0)
    (hT : ∀ j : S1001.Idx, BitVec.toNat (w := 32) (xt j) < 16) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ tabPt c tab0 xt
        ∗ (iprop(owns (c : Thread nD τ) arg2 fullShare x0 ∗ owns (c : Thread nD τ) arg3 fullShare x1
            ∗ owns (c : Thread nD τ) arg4 fullShare (out0 i x0 x1 xt) ∗ tabPt c tab0 xt) -∗ K ⟨⟩))
      ⊢ wp frame (wpE (defs₀ (F := F)) Variants.none c none) E (cc0__scale_block i tab0 htab0 arg2 harg2 arg3 harg3 arg4 harg4) K := by
  have k0_hw1 : k0_chk1 (tab0.view.readAt (Elt F) (Rect.unit (s := S1001) (k0_off1 i) S1.size (k0_off1_inb i)).toLoadRect xt (Shape.Idx.first (numel1_S1.symm ▸ Nat.one_pos))) := chk_of_lt _ _ rfl (hT _)
  have k0_hw2 : k0_chk2 (tab0.view.readAt (Elt F) (Rect.unit (s := S1001) (k0_off3 i) S1.size (k0_off3_inb i)).toLoadRect xt (Shape.Idx.first (numel1_S1.symm ▸ Nat.one_pos))) := chk_of_lt _ _ rfl (hT _)
  have k0_hw3 : k0_chk3 (tab0.view.readAt (Elt F) (Rect.unit (s := S1001) (k0_off5 i) S1.size (k0_off5_inb i)).toLoadRect xt (Shape.Idx.first (numel1_S1.symm ▸ Nat.one_pos))) := chk_of_lt _ _ rfl (hT _)
  have k0_hw4 : k0_chk4 (tab0.view.readAt (Elt F) (Rect.unit (s := S1001) (k0_off7 i) S1.size (k0_off7_inb i)).toLoadRect xt (Shape.Idx.first (numel1_S1.symm ▸ Nat.one_pos))) := chk_of_lt _ _ rfl (hT _)
  have k0_hw5 : k0_chk5 (tab0.view.readAt (Elt F) (Rect.unit (s := S1001) (k0_off9 i) S1.size (k0_off9_inb i)).toLoadRect xt (Shape.Idx.first (numel1_S1.symm ▸ Nat.one_pos))) := chk_of_lt _ _ rfl (hT _)
  have k0_hw6 : k0_chk6 (tab0.view.readAt (Elt F) (Rect.unit (s := S1001) (k0_off11 i) S1.size (k0_off11_inb i)).toLoadRect xt (Shape.Idx.first (numel1_S1.symm ▸ Nat.one_pos))) := chk_of_lt _ _ rfl (hT _)
  have k0_hw7 : k0_chk7 (tab0.view.readAt (Elt F) (Rect.unit (s := S1001) (k0_off13 i) S1.size (k0_off13_inb i)).toLoadRect xt (Shape.Idx.first (numel1_S1.symm ▸ Nat.one_pos))) := chk_of_lt _ _ rfl (hT _)
  have k0_hw8 : k0_chk8 (tab0.view.readAt (Elt F) (Rect.unit (s := S1001) (k0_off15 i) S1.size (k0_off15_inb i)).toLoadRect xt (Shape.Idx.first (numel1_S1.symm ▸ Nat.one_pos))) := chk_of_lt _ _ rfl (hT _)
  have k0_hw9 : k0_chk9 (tab0.view.readAt (Elt F) (Rect.unit (s := S1001) (k0_off17 i) S1.size (k0_off17_inb i)).toLoadRect xt (Shape.Idx.first (numel1_S1.symm ▸ Nat.one_pos))) := chk_of_lt _ _ rfl (hT _)
  have k0_hw10 : k0_chk10 (tab0.view.readAt (Elt F) (Rect.unit (s := S1001) (k0_off19 i) S1.size (k0_off19_inb i)).toLoadRect xt (Shape.Idx.first (numel1_S1.symm ▸ Nat.one_pos))) := chk_of_lt _ _ rfl (hT _)
  have k0_hw11 : k0_chk11 (tab0.view.readAt (Elt F) (Rect.unit (s := S1001) (k0_off21 i) S1.size (k0_off21_inb i)).toLoadRect xt (Shape.Idx.first (numel1_S1.symm ▸ Nat.one_pos))) := chk_of_lt _ _ rfl (hT _)
  have k0_hw12 : k0_chk12 (tab0.view.readAt (Elt F) (Rect.unit (s := S1001) (k0_off23 i) S1.size (k0_off23_inb i)).toLoadRect xt (Shape.Idx.first (numel1_S1.symm ▸ Nat.one_pos))) := chk_of_lt _ _ rfl (hT _)
  have k0_hw13 : k0_chk13 (tab0.view.readAt (Elt F) (Rect.unit (s := S1001) (k0_off25 i) S1.size (k0_off25_inb i)).toLoadRect xt (Shape.Idx.first (numel1_S1.symm ▸ Nat.one_pos))) := chk_of_lt _ _ rfl (hT _)
  have k0_hw14 : k0_chk14 (tab0.view.readAt (Elt F) (Rect.unit (s := S1001) (k0_off27 i) S1.size (k0_off27_inb i)).toLoadRect xt (Shape.Idx.first (numel1_S1.symm ▸ Nat.one_pos))) := chk_of_lt _ _ rfl (hT _)
  have k0_hw15 : k0_chk15 (tab0.view.readAt (Elt F) (Rect.unit (s := S1001) (k0_off29 i) S1.size (k0_off29_inb i)).toLoadRect xt (Shape.Idx.first (numel1_S1.symm ▸ Nat.one_pos))) := chk_of_lt _ _ rfl (hT _)
  have k0_hw16 : k0_chk16 (tab0.view.readAt (Elt F) (Rect.unit (s := S1001) (k0_off31 i) S1.size (k0_off31_inb i)).toLoadRect xt (Shape.Idx.first (numel1_S1.symm ▸ Nat.one_pos))) := chk_of_lt _ _ rfl (hT _)
  have k0_hw17 : k0_chk17 (tab0.view.readAt (Elt F) (Rect.unit (s := S1001) (k0_off33 i) S1.size (k0_off33_inb i)).toLoadRect xt (Shape.Idx.first (numel1_S1.symm ▸ Nat.one_pos))) := chk_of_lt _ _ rfl (hT _)
  have k0_hw18 : k0_chk18 (tab0.view.readAt (Elt F) (Rect.unit (s := S1001) (k0_off35 i) S1.size (k0_off35_inb i)).toLoadRect xt (Shape.Idx.first (numel1_S1.symm ▸ Nat.one_pos))) := chk_of_lt _ _ rfl (hT _)
  have k0_hw19 : k0_chk19 (tab0.view.readAt (Elt F) (Rect.unit (s := S1001) (k0_off37 i) S1.size (k0_off37_inb i)).toLoadRect xt (Shape.Idx.first (numel1_S1.symm ▸ Nat.one_pos))) := chk_of_lt _ _ rfl (hT _)
  have k0_hw20 : k0_chk20 (tab0.view.readAt (Elt F) (Rect.unit (s := S1001) (k0_off39 i) S1.size (k0_off39_inb i)).toLoadRect xt (Shape.Idx.first (numel1_S1.symm ▸ Nat.one_pos))) := chk_of_lt _ _ rfl (hT _)
  simp only [cc0__scale_block_eq_skeleton]; unfold cc0__scale_block_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%d2, %f2, -, H2⟩, HT0, Hk⟩
  obtain rfl := harg2.eq_unread hf0; obtain rfl := harg3.eq_unread hf1
  sl_exec (disch := first | sl_exact k0_hw1 | sl_exact k0_hw2 | sl_exact k0_hw3 | sl_exact k0_hw4 | sl_exact k0_hw5 | sl_exact k0_hw6 | sl_exact k0_hw7 | sl_exact k0_hw8 | sl_exact k0_hw9 | sl_exact k0_hw10 | sl_exact k0_hw11 | sl_exact k0_hw12 | sl_exact k0_hw13 | sl_exact k0_hw14 | sl_exact k0_hw15 | sl_exact k0_hw16 | sl_exact k0_hw17 | sl_exact k0_hw18 | sl_exact k0_hw19 | sl_exact k0_hw20)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    funext y
    refine View.read_writes_apply_of_pieces _ _ (out0 i x0 x1 xt) _ ?_ y ?_
    swap; · exact View.cover_of_tiledL (s := S20000x64) _ S1000x64.size (by sl_kernel_rfl) y
    simp only [List.forall_mem_cons, List.not_mem_nil, false_imp_iff, implies_true, _root_.and_true]
    exact ⟨fun x => piece c i arg2 harg2 arg3 harg3 x0 x1 xt hT 19 (by omega) inb_S20000x64_S1000x64_19000_0 x _ (k0_off39_eq i) (k0_off39_inb i) _ _ rfl (k0_off40_inb _ k0_hw20) _,
      fun x => piece c i arg2 harg2 arg3 harg3 x0 x1 xt hT 18 (by omega) inb_S20000x64_S1000x64_18000_0 x _ (k0_off37_eq i) (k0_off37_inb i) _ _ rfl (k0_off38_inb _ k0_hw19) _,
      fun x => piece c i arg2 harg2 arg3 harg3 x0 x1 xt hT 17 (by omega) inb_S20000x64_S1000x64_17000_0 x _ (k0_off35_eq i) (k0_off35_inb i) _ _ rfl (k0_off36_inb _ k0_hw18) _,
      fun x => piece c i arg2 harg2 arg3 harg3 x0 x1 xt hT 16 (by omega) inb_S20000x64_S1000x64_16000_0 x _ (k0_off33_eq i) (k0_off33_inb i) _ _ rfl (k0_off34_inb _ k0_hw17) _,
      fun x => piece c i arg2 harg2 arg3 harg3 x0 x1 xt hT 15 (by omega) inb_S20000x64_S1000x64_15000_0 x _ (k0_off31_eq i) (k0_off31_inb i) _ _ rfl (k0_off32_inb _ k0_hw16) _,
      fun x => piece c i arg2 harg2 arg3 harg3 x0 x1 xt hT 14 (by omega) inb_S20000x64_S1000x64_14000_0 x _ (k0_off29_eq i) (k0_off29_inb i) _ _ rfl (k0_off30_inb _ k0_hw15) _,
      fun x => piece c i arg2 harg2 arg3 harg3 x0 x1 xt hT 13 (by omega) inb_S20000x64_S1000x64_13000_0 x _ (k0_off27_eq i) (k0_off27_inb i) _ _ rfl (k0_off28_inb _ k0_hw14) _,
      fun x => piece c i arg2 harg2 arg3 harg3 x0 x1 xt hT 12 (by omega) inb_S20000x64_S1000x64_12000_0 x _ (k0_off25_eq i) (k0_off25_inb i) _ _ rfl (k0_off26_inb _ k0_hw13) _,
      fun x => piece c i arg2 harg2 arg3 harg3 x0 x1 xt hT 11 (by omega) inb_S20000x64_S1000x64_11000_0 x _ (k0_off23_eq i) (k0_off23_inb i) _ _ rfl (k0_off24_inb _ k0_hw12) _,
      fun x => piece c i arg2 harg2 arg3 harg3 x0 x1 xt hT 10 (by omega) inb_S20000x64_S1000x64_10000_0 x _ (k0_off21_eq i) (k0_off21_inb i) _ _ rfl (k0_off22_inb _ k0_hw11) _,
      fun x => piece c i arg2 harg2 arg3 harg3 x0 x1 xt hT 9 (by omega) inb_S20000x64_S1000x64_9000_0 x _ (k0_off19_eq i) (k0_off19_inb i) _ _ rfl (k0_off20_inb _ k0_hw10) _,
      fun x => piece c i arg2 harg2 arg3 harg3 x0 x1 xt hT 8 (by omega) inb_S20000x64_S1000x64_8000_0 x _ (k0_off17_eq i) (k0_off17_inb i) _ _ rfl (k0_off18_inb _ k0_hw9) _,
      fun x => piece c i arg2 harg2 arg3 harg3 x0 x1 xt hT 7 (by omega) inb_S20000x64_S1000x64_7000_0 x _ (k0_off15_eq i) (k0_off15_inb i) _ _ rfl (k0_off16_inb _ k0_hw8) _,
      fun x => piece c i arg2 harg2 arg3 harg3 x0 x1 xt hT 6 (by omega) inb_S20000x64_S1000x64_6000_0 x _ (k0_off13_eq i) (k0_off13_inb i) _ _ rfl (k0_off14_inb _ k0_hw7) _,
      fun x => piece c i arg2 harg2 arg3 harg3 x0 x1 xt hT 5 (by omega) inb_S20000x64_S1000x64_5000_0 x _ (k0_off11_eq i) (k0_off11_inb i) _ _ rfl (k0_off12_inb _ k0_hw6) _,
      fun x => piece c i arg2 harg2 arg3 harg3 x0 x1 xt hT 4 (by omega) inb_S20000x64_S1000x64_4000_0 x _ (k0_off9_eq i) (k0_off9_inb i) _ _ rfl (k0_off10_inb _ k0_hw5) _,
      fun x => piece c i arg2 harg2 arg3 harg3 x0 x1 xt hT 3 (by omega) inb_S20000x64_S1000x64_3000_0 x _ (k0_off7_eq i) (k0_off7_inb i) _ _ rfl (k0_off8_inb _ k0_hw4) _,
      fun x => piece c i arg2 harg2 arg3 harg3 x0 x1 xt hT 2 (by omega) inb_S20000x64_S1000x64_2000_0 x _ (k0_off5_eq i) (k0_off5_inb i) _ _ rfl (k0_off6_inb _ k0_hw3) _,
      fun x => piece c i arg2 harg2 arg3 harg3 x0 x1 xt hT 1 (by omega) inb_S20000x64_S1000x64_1000_0 x _ (k0_off3_eq i) (k0_off3_inb i) _ _ rfl (k0_off4_inb _ k0_hw2) _,
      fun x => piece c i arg2 harg2 arg3 harg3 x0 x1 xt hT 0 (by omega) inb_S20000x64_S1000x64_0_0 x _ (k0_off1_eq i) (k0_off1_inb i) _ _ rfl (k0_off2_inb _ k0_hw1) _⟩
  iexact HT0

end Cert.KernelIdeal.Hand

end
-- ==== Proof.Ideal.Body1.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.ValueIdxCore
public import proofs.«01_k».proof.Proof.Ideal.Body0

/-! # The fix-up call at one grid point

From a slab of a thousand batch ids, the sixteen factors and the slab's rows: the running sum of factor differences,
each added from its boundary on, times the rows. The fourth input is not read. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

/-- The table of call 1, as a memref. -/
abbrev tab1 : Memref sig .tc .smem S15 .i32 := Memref.whole main_v18
abbrev htab1 : tab1.IsWhole := Memref.isWhole_whole _

/-- A load of a whole memref's whole shape reads its contents. -/
theorem readAt_all {κ : Kind} {sp : Space} {S : Shape} {e : EltTy} (M : Memref sig κ sp S e) (hM : M.IsWhole) (x : S.Idx → Elt F e) (off : Fin S.rank → Nat)
    (h0 : ∀ a, off a = 0) (inb : ∀ a, off a + S.size a ≤ S.size a) :
    M.view.readAt (Elt F) (Rect.unit off S.size inb).toLoadRect (hM.unread x) = x := by
  funext j
  rw [View.readAt_apply, hM.read_unread]
  refine congrArg x ?_
  funext a
  apply Fin.ext
  show off a + 1 * (j a).val = (j a).val
  rw [h0 a]; omega

/-- The row number of each element of a slab, -/
abbrev rowNo : IVec S1000x64 32 := iota .tc S1000x64 32 [0] iota_S1000x64_d0_w32

/-- and the zero added before a boundary. -/
abbrev zro : F .f32 := Scalar.ofBits .f32 0x00000000#32

/-- The factor each row of a slab ends with: boundaries `0 … 8`, -/
def sum9 (x0 : Vec F S1x1x1000 .i32) (x1 : Vec F S16x1 .f32) : FVec F S1000x64 .f32 :=
  k1_pay7 (k1_pay2 x0) (k1_pay3 x1) rowNo (k1_pay4 x0 x1) (k1_pay5 x0) (k1_pay6 x1) zro

/-- then `9 … 14`. -/
def sum15 (x0 : Vec F S1x1x1000 .i32) (x1 : Vec F S16x1 .f32) : FVec F S1000x64 .f32 :=
  k1_pay10 (k1_pay2 x0) (k1_pay3 x1) rowNo (sum9 x0 x1) (k1_pay8 (k1_pay2 x0) rowNo) (k1_pay9 (k1_pay3 x1)) zro

/-- The block the call leaves: the last boundary added and the rows multiplied. -/
def out1 (x0 : Vec F S1x1x1000 .i32) (x1 : Vec F S16x1 .f32) (x2 : Vec F S1000x64 .f32) : Vec F S1000x64 .f32 :=
  k1_pay1 (sum15 x0 x1) (k1_pay11 (k1_pay2 x0) rowNo) (k1_pay12 (k1_pay3 x1)) zro x2

set_option maxHeartbeats 1000000 in
/-- The body of call 1 on whole staging memrefs. -/
theorem run1 (c : Dev nD) (i : grid1.Coords) (arg2 : Memref sig .tc .vmem S1x1x1000 .i32) (harg2 : arg2.IsWhole) (arg3 : Memref sig .tc .vmem S16x1 .f32) (harg3 : arg3.IsWhole) (arg4 : Memref sig .tc .vmem S1000x64 .f32) (harg4 : arg4.IsWhole)
    (arg5 : Memref sig .tc .vmem S1000x64 .f32) (harg5 : arg5.IsWhole) (arg6 : Memref sig .tc .vmem S1000x64 .f32) (harg6 : arg6.IsWhole)
    (x0 : Vec F S1x1x1000 .i32) (x1 : Vec F S16x1 .f32) (x2 : Vec F S1000x64 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg6 fullShare (out1 x0 x1 x2)) -∗ K ⟨⟩))
      ⊢ wp frame (wpE (defs₀ (F := F)) Variants.none c none) E (cc1__fixup_block i tab1 htab1 arg2 harg2 arg3 harg3 arg4 harg4 arg5 harg5 arg6 harg6) K := by
  simp only [cc1__fixup_block_eq_skeleton]; unfold cc1__fixup_block_skel
  simp only [k1_part1_eq_skeleton, k1_part2_eq_skeleton, k1_part3_eq_skeleton]
  unfold owns
  iintro ⟨⟨%f0, %hf0, H0⟩, ⟨%f1, %hf1, H1⟩, ⟨%f2, %hf2, H2⟩, ⟨%d3, %f3, -, H3⟩, Hk⟩
  obtain rfl := harg2.eq_unread hf0; obtain rfl := harg3.eq_unread hf1; obtain rfl := harg4.eq_unread hf2
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact H3
  ipureintro
  funext y
  refine View.read_writes_apply_of_pieces _ _ (out1 x0 x1 x2) _ ?_ y ?_
  swap; · exact View.cover_of_tiledL (s := S1000x64) _ S1000x64.size (by sl_kernel_rfl) y
  have e2 := readAt_all arg2 harg2 x0 ![0, 0, 0] (fun a => by match a with | ⟨0, _⟩ => rfl | ⟨1, _⟩ => rfl | ⟨2, _⟩ => rfl) inb_S1x1x1000_S1x1x1000_0_0_0
  have e3 := readAt_all arg3 harg3 x1 ![0, 0] (fun a => by match a with | ⟨0, _⟩ => rfl | ⟨1, _⟩ => rfl) inb_S16x1_S16x1_0_0
  have e4 := readAt_all arg4 harg4 x2 ![0, 0] (fun a => by match a with | ⟨0, _⟩ => rfl | ⟨1, _⟩ => rfl) inb_S1000x64_S1000x64_0_0
  have emb : ∀ x : S1000x64.Idx, (Rect.unit (s := S1000x64) ![0, 0] S1000x64.size inb_S1000x64_S1000x64_0_0).emb x = x := fun x => by
    funext a; apply Fin.ext
    match a with
    | ⟨0, _⟩ => show 0 + 1 * (x 0).val = (x 0).val; omega
    | ⟨1, _⟩ => show 0 + 1 * (x 1).val = (x 1).val; omega
  intro p hp
  rw [List.mem_singleton] at hp
  subst hp
  intro x
  refine Eq.trans ?_ (congrArg (out1 x0 x1 x2) (emb x).symm)
  have key := congrFun (congr (congr (congrArg out1 e2) e3) e4) x
  exact key

end Cert.KernelIdeal.Hand

end
-- ==== Proof.Ideal.Dats.lean ====
module

public import proofs.«01_k».proof.Proof.Ideal.Body1
public import Idealize.ShloMosaic.Lib.Pipeline.Regions

/-! The two calls' proof data: what every window's buffer holds at every grid point, for any contents of the
    tables and any contents of the arrays at the calls' entries. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first call: the blocks scaled by their first row's segment -/

section First

variable (A0 : (pcfg0 (F := F)).Adm) (V : Dev nD → Valuation τ sig (Elt F))

/-- Window `w`'s block at point `t`, of the arrays at the call's entry. -/
def blk0 (c : Dev nD) (w : Fin (cfg0 A0).W) (t : Fin (cfg0 A0).N) :
    (((cfg0 A0).win w).xblock ((cfg0 A0).grid.coords t)).Idx → Elt F ((cfg0 A0).win w).elt :=
  (((cfg0 A0).win w).blk t).view.read (Elt F) (V c (Pipeline.arrRef spec0 w))

/-- The proof data of the first call. -/
def dat0 (c : Dev nD) : Dat τ (Elt F) Unit ℕ (UR sig nD τ) ℕ (cfg0 A0) c where
  A w := V c (Pipeline.arrRef spec0 w)
  after w t := match w with
    | ⟨0, _⟩ => blk0 A0 V c 0 t
    | ⟨1, _⟩ => blk0 A0 V c 1 t
    | ⟨2, _⟩ => out0 (grid0.coords t) (blk0 A0 V c 0 t) (blk0 A0 V c 1 t) (A0.1 0)
  Φ _ := iprop(Pipeline.prefHeld pre0 c (fun _ => fullShare) A0.1 ∗ Pipeline.scopedRest spec0 c)
  q _ := fullShare
  owed _ := 0

theorem A_eq0 (c : Dev nD) (w : Fin (cfg0 A0).W) : (dat0 A0 V c).A w = V c (Pipeline.arrRef spec0 w) := by
  dsimp only [dat0]
theorem after0_0 (c : Dev nD) (t : Fin (cfg0 A0).N) : (dat0 A0 V c).after 0 t = blk0 A0 V c 0 t := by dsimp only [dat0]; try rfl
theorem after0_1 (c : Dev nD) (t : Fin (cfg0 A0).N) : (dat0 A0 V c).after 1 t = blk0 A0 V c 1 t := by dsimp only [dat0]; try rfl
theorem after0_2 (c : Dev nD) (t : Fin (cfg0 A0).N) :
    (dat0 A0 V c).after 2 t = out0 (grid0.coords t) (blk0 A0 V c 0 t) (blk0 A0 V c 1 t) (A0.1 0) := by dsimp only [dat0]; try rfl

theorem before0_0 (c : Dev nD) (t : Fin (cfg0 A0).N) (d) : (dat0 A0 V c).before 0 t d = blk0 A0 V c 0 t :=
  ((dat0 A0 V c).before_in_eq_fetched 0 rfl (fun _ => rfl) (fun _ _ _ => rfl)
      (fun t => by rw [after0_0]; unfold Dat.blockOf blk0; rw [A_eq0]; try rfl) t d).trans
    (by unfold Dat.fetched Dat.blockOf blk0; rw [A_eq0]; try rfl)
theorem before0_1 (c : Dev nD) (t : Fin (cfg0 A0).N) (d) : (dat0 A0 V c).before 1 t d = blk0 A0 V c 1 t :=
  ((dat0 A0 V c).before_in_eq_fetched 1 rfl (fun _ => rfl) (fun _ _ _ => rfl)
      (fun t => by rw [after0_1]; unfold Dat.blockOf blk0; rw [A_eq0]; try rfl) t d).trans
    (by unfold Dat.fetched Dat.blockOf blk0; rw [A_eq0]; try rfl)

/-- The table whole at its contents, as the body's run takes it. -/
theorem prefHeld0_eq (c : Dev nD) :
    (Pipeline.prefHeld pre0 c (fun _ => fullShare) A0.1 : sProp 𝕄) = tabPt c tab0 (A0.1 0) := by
  unfold Pipeline.prefHeld
  exact bigSep_univ_eq_bigSepL [(0 : Fin 1)] (by decide) (by decide) _

abbrev ms0_0 (t : Fin (cfg0 A0).N) : Memref sig .tc .smem S16 .f32 := spec0_0.stage ((cfg0 A0).slots t 0)
abbrev ms0_1 (t : Fin (cfg0 A0).N) : Memref sig .tc .vmem S20000x64 .f32 := spec0_1.stage ((cfg0 A0).slots t 1)
abbrev ms0_2 (t : Fin (cfg0 A0).N) : Memref sig .tc .vmem S20000x64 .f32 := spec0_2.stage ((cfg0 A0).slots t 2)

/-- The body at point `t`, on the buffers it is called with there. -/
abbrev bodyAt0 (t : Fin (cfg0 A0).N) : Prog (TpuEff nD τ sig (Elt F) Λ₀ .tc) PUnit :=
  cc0__scale_block (grid0.coords t) tab0 htab0 (ms0_0 A0 t) (hstage0_0 (((cfg0 A0).slots t 0).cast nbuf0_0))
    (ms0_1 A0 t) (hstage0_1 (((cfg0 A0).slots t 1).cast nbuf0_1)) (ms0_2 A0 t) (hstage0_2 (((cfg0 A0).slots t 2).cast nbuf0_2))

def bodyPre0 (c : Dev nD) (t : Fin (cfg0 A0).N) : sProp 𝕄 :=
  iprop((dat0 A0 V c).Φ t.castSucc ∗ (dat0 A0 V c).owesAt () t.castSucc
    ∗ (∃ d, owns (c : Thread nD τ) (ms0_0 A0 t) fullShare ((dat0 A0 V c).before 0 t d))
    ∗ (∃ d, owns (c : Thread nD τ) (ms0_1 A0 t) fullShare ((dat0 A0 V c).before 1 t d))
    ∗ (∃ d, owns (c : Thread nD τ) (ms0_2 A0 t) fullShare ((dat0 A0 V c).before 2 t d)))

def bodyPost0 (c : Dev nD) (t : Fin (cfg0 A0).N) : sProp 𝕄 :=
  iprop((dat0 A0 V c).Φ t.succ ∗ (dat0 A0 V c).owesAt () t.succ
    ∗ owns (c : Thread nD τ) (ms0_0 A0 t) fullShare ((dat0 A0 V c).after 0 t)
    ∗ owns (c : Thread nD τ) (ms0_1 A0 t) fullShare ((dat0 A0 V c).after 1 t)
    ∗ owns (c : Thread nD τ) (ms0_2 A0 t) fullShare ((dat0 A0 V c).after 2 t))

variable (hT : ∀ j : S1001.Idx, BitVec.toNat (w := 32) (A0.1 0 j) < 16)

include hT in
set_option maxHeartbeats 800000 in
/-- The body at any point leaves what the proof data says. -/
theorem sound_body0 (c : Dev nD) (t : Fin (cfg0 A0).N) :
    bodyPre0 A0 V c t ⊢ wp frame (wpE (defs₀ (F := F)) Variants.none c none) Set.univ (bodyAt0 A0 t) (fun _ => bodyPost0 A0 V c t) := by
  unfold bodyPre0 bodyPost0 bodyAt0
  simp only [before0_0, before0_1]
  rw [show (dat0 A0 V c).Φ t.succ = (dat0 A0 V c).Φ t.castSucc from rfl,
    show (dat0 A0 V c).owesAt () t.succ = (dat0 A0 V c).owesAt () t.castSucc from rfl,
    after0_0, after0_1, after0_2]
  rw [show (dat0 A0 V c).Φ t.castSucc = iprop(Pipeline.prefHeld pre0 c (fun _ => fullShare) A0.1 ∗ Pipeline.scopedRest spec0 c) from rfl,
    prefHeld0_eq]
  iintro ⟨⟨HT, HR⟩, Ho, ⟨%d0, H0⟩, ⟨%d1, H1⟩, ⟨%d2, H2⟩⟩
  iapply (run0 c (grid0.coords t) _ _ _ _ _ _ (blk0 A0 V c 0 t) (blk0 A0 V c 1 t) (A0.1 0) hT)
  isplitl [H0]; · iexact H0
  isplitl [H1]; · iexact H1
  isplitl [H2]; · iexists _; iexact H2
  isplitl [HT]; · iexact HT
  iintro ⟨H0, H1, H2, HT⟩
  isplitl [HR HT]
  · isplitl [HT]
    · iexact HT
    iexact HR
  isplitl [Ho]; · iexact Ho
  isplitl [H0]; · iexact H0
  isplitl [H1]; · iexact H1
  iexact H2

theorem row0 (t : Fin (cfg0 A0).N) :
    defs₀ (F := F) .tc (cfg0 A0).body ((cfg0 A0).bodyArgs t ((cfg0 A0).slots t)) = bodyAt0 A0 t := by
  unfold defs₀; rw [Defs.onTc_tc]

include hT in
theorem obligation0 (c : Dev nD) : BodyObligation (dat0 A0 V c) (defs₀ (F := F)) Variants.none () Set.univ := fun t => by
  rw [bigSep_W0, bigSep_W0, row0 A0]
  exact triple_restated (sound_body0 A0 V hT c t) rfl .rfl fun _ => .rfl

end First

/-! ## The second call: the blocks that hold more than one segment -/

section Second

variable (A1 : (pcfg1 (F := F)).Adm) (V : Dev nD → Valuation τ sig (Elt F))

/-- Window `w`'s block at point `t`, of the arrays at the call's entry. -/
def blk1 (c : Dev nD) (w : Fin (cfg1 A1).W) (t : Fin (cfg1 A1).N) :
    (((cfg1 A1).win w).xblock ((cfg1 A1).grid.coords t)).Idx → Elt F ((cfg1 A1).win w).elt :=
  (((cfg1 A1).win w).blk t).view.read (Elt F) (V c (Pipeline.arrRef spec1 w))

/-- The proof data of the second call. -/
def dat1 (c : Dev nD) : Dat τ (Elt F) Unit ℕ (UR sig nD τ) ℕ (cfg1 A1) c where
  A w := V c (Pipeline.arrRef spec1 w)
  after w t := match w with
    | ⟨0, _⟩ => blk1 A1 V c 0 t
    | ⟨1, _⟩ => blk1 A1 V c 1 t
    | ⟨2, _⟩ => blk1 A1 V c 2 t
    | ⟨3, _⟩ => blk1 A1 V c 3 t
    | ⟨4, _⟩ => out1 (blk1 A1 V c 0 t) (blk1 A1 V c 1 t) (blk1 A1 V c 2 t)
  Φ _ := iprop(Pipeline.prefHeld pre1 c (fun _ => fullShare) A1.1 ∗ Pipeline.scopedRest spec1 c)
  q _ := fullShare
  owed _ := 0

theorem A_eq1 (c : Dev nD) (w : Fin (cfg1 A1).W) : (dat1 A1 V c).A w = V c (Pipeline.arrRef spec1 w) := by
  dsimp only [dat1]
theorem after1_0 (c : Dev nD) (t : Fin (cfg1 A1).N) : (dat1 A1 V c).after 0 t = blk1 A1 V c 0 t := by dsimp only [dat1]; try rfl
theorem after1_1 (c : Dev nD) (t : Fin (cfg1 A1).N) : (dat1 A1 V c).after 1 t = blk1 A1 V c 1 t := by dsimp only [dat1]; try rfl
theorem after1_2 (c : Dev nD) (t : Fin (cfg1 A1).N) : (dat1 A1 V c).after 2 t = blk1 A1 V c 2 t := by dsimp only [dat1]; try rfl
theorem after1_3 (c : Dev nD) (t : Fin (cfg1 A1).N) : (dat1 A1 V c).after 3 t = blk1 A1 V c 3 t := by dsimp only [dat1]; try rfl
theorem after1_4 (c : Dev nD) (t : Fin (cfg1 A1).N) :
    (dat1 A1 V c).after 4 t = out1 (blk1 A1 V c 0 t) (blk1 A1 V c 1 t) (blk1 A1 V c 2 t) := by dsimp only [dat1]; try rfl

theorem before1_0 (c : Dev nD) (t : Fin (cfg1 A1).N) (d) : (dat1 A1 V c).before 0 t d = blk1 A1 V c 0 t :=
  ((dat1 A1 V c).before_in_eq_fetched 0 rfl (fun _ => rfl) (fun _ _ _ => rfl)
      (fun t => by rw [after1_0]; unfold Dat.blockOf blk1; rw [A_eq1]; try rfl) t d).trans
    (by unfold Dat.fetched Dat.blockOf blk1; rw [A_eq1]; try rfl)
theorem before1_1 (c : Dev nD) (t : Fin (cfg1 A1).N) (d) : (dat1 A1 V c).before 1 t d = blk1 A1 V c 1 t :=
  ((dat1 A1 V c).before_in_eq_fetched 1 rfl (fun _ => rfl) (fun _ _ _ => rfl)
      (fun t => by rw [after1_1]; unfold Dat.blockOf blk1; rw [A_eq1]; try rfl) t d).trans
    (by unfold Dat.fetched Dat.blockOf blk1; rw [A_eq1]; try rfl)
theorem before1_2 (c : Dev nD) (t : Fin (cfg1 A1).N) (d) : (dat1 A1 V c).before 2 t d = blk1 A1 V c 2 t :=
  ((dat1 A1 V c).before_in_eq_fetched 2 rfl (fun _ => rfl) (fun _ _ _ => rfl)
      (fun t => by rw [after1_2]; unfold Dat.blockOf blk1; rw [A_eq1]; try rfl) t d).trans
    (by unfold Dat.fetched Dat.blockOf blk1; rw [A_eq1]; try rfl)
theorem before1_3 (c : Dev nD) (t : Fin (cfg1 A1).N) (d) : (dat1 A1 V c).before 3 t d = blk1 A1 V c 3 t :=
  ((dat1 A1 V c).before_in_eq_fetched 3 rfl (fun _ => rfl) (fun _ _ _ => rfl)
      (fun t => by rw [after1_3]; unfold Dat.blockOf blk1; rw [A_eq1]; try rfl) t d).trans
    (by unfold Dat.fetched Dat.blockOf blk1; rw [A_eq1]; try rfl)

abbrev ms1_0 (t : Fin (cfg1 A1).N) : Memref sig .tc .vmem S1x1x1000 .i32 := spec1_0.stage ((cfg1 A1).slots t 0)
abbrev ms1_1 (t : Fin (cfg1 A1).N) : Memref sig .tc .vmem S16x1 .f32 := spec1_1.stage ((cfg1 A1).slots t 1)
abbrev ms1_2 (t : Fin (cfg1 A1).N) : Memref sig .tc .vmem S1000x64 .f32 := spec1_2.stage ((cfg1 A1).slots t 2)
abbrev ms1_3 (t : Fin (cfg1 A1).N) : Memref sig .tc .vmem S1000x64 .f32 := spec1_3.stage ((cfg1 A1).slots t 3)
abbrev ms1_4 (t : Fin (cfg1 A1).N) : Memref sig .tc .vmem S1000x64 .f32 := spec1_4.stage ((cfg1 A1).slots t 4)

/-- The body at point `t`, on the buffers it is called with there. -/
abbrev bodyAt1 (t : Fin (cfg1 A1).N) : Prog (TpuEff nD τ sig (Elt F) Λ₀ .tc) PUnit :=
  cc1__fixup_block (grid1.coords t) tab1 htab1 (ms1_0 A1 t) (hstage1_0 (((cfg1 A1).slots t 0).cast nbuf1_0))
    (ms1_1 A1 t) (hstage1_1 (((cfg1 A1).slots t 1).cast nbuf1_1)) (ms1_2 A1 t) (hstage1_2 (((cfg1 A1).slots t 2).cast nbuf1_2))
    (ms1_3 A1 t) (hstage1_3 (((cfg1 A1).slots t 3).cast nbuf1_3)) (ms1_4 A1 t) (hstage1_4 (((cfg1 A1).slots t 4).cast nbuf1_4))

def bodyPre1 (c : Dev nD) (t : Fin (cfg1 A1).N) : sProp 𝕄 :=
  iprop((dat1 A1 V c).Φ t.castSucc ∗ (dat1 A1 V c).owesAt () t.castSucc
    ∗ (∃ d, owns (c : Thread nD τ) (ms1_0 A1 t) fullShare ((dat1 A1 V c).before 0 t d))
    ∗ (∃ d, owns (c : Thread nD τ) (ms1_1 A1 t) fullShare ((dat1 A1 V c).before 1 t d))
    ∗ (∃ d, owns (c : Thread nD τ) (ms1_2 A1 t) fullShare ((dat1 A1 V c).before 2 t d))
    ∗ (∃ d, owns (c : Thread nD τ) (ms1_3 A1 t) fullShare ((dat1 A1 V c).before 3 t d))
    ∗ (∃ d, owns (c : Thread nD τ) (ms1_4 A1 t) fullShare ((dat1 A1 V c).before 4 t d)))

def bodyPost1 (c : Dev nD) (t : Fin (cfg1 A1).N) : sProp 𝕄 :=
  iprop((dat1 A1 V c).Φ t.succ ∗ (dat1 A1 V c).owesAt () t.succ
    ∗ owns (c : Thread nD τ) (ms1_0 A1 t) fullShare ((dat1 A1 V c).after 0 t)
    ∗ owns (c : Thread nD τ) (ms1_1 A1 t) fullShare ((dat1 A1 V c).after 1 t)
    ∗ owns (c : Thread nD τ) (ms1_2 A1 t) fullShare ((dat1 A1 V c).after 2 t)
    ∗ owns (c : Thread nD τ) (ms1_3 A1 t) fullShare ((dat1 A1 V c).after 3 t)
    ∗ owns (c : Thread nD τ) (ms1_4 A1 t) fullShare ((dat1 A1 V c).after 4 t))

set_option maxHeartbeats 800000 in
/-- The body at any point leaves what the proof data says. -/
theorem sound_body1 (c : Dev nD) (t : Fin (cfg1 A1).N) :
    bodyPre1 A1 V c t ⊢ wp frame (wpE (defs₀ (F := F)) Variants.none c none) Set.univ (bodyAt1 A1 t) (fun _ => bodyPost1 A1 V c t) := by
  unfold bodyPre1 bodyPost1 bodyAt1
  simp only [before1_0, before1_1, before1_2, before1_3]
  rw [show (dat1 A1 V c).Φ t.succ = (dat1 A1 V c).Φ t.castSucc from rfl,
    show (dat1 A1 V c).owesAt () t.succ = (dat1 A1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (run1 c (grid1.coords t) _ _ _ _ _ _ _ _ _ _ (blk1 A1 V c 0 t) (blk1 A1 V c 1 t) (blk1 A1 V c 2 t))
  isplitl [H0]; · iexact H0
  isplitl [H1]; · iexact H1
  isplitl [H2]; · iexact H2
  isplitl [H4]; · iexists _; iexact H4
  iintro ⟨H0, H1, H2, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem row1 (t : Fin (cfg1 A1).N) :
    defs₀ (F := F) .tc (cfg1 A1).body ((cfg1 A1).bodyArgs t ((cfg1 A1).slots t)) = bodyAt1 A1 t := by
  unfold defs₀; rw [Defs.onTc_tc]

theorem obligation1 (c : Dev nD) : BodyObligation (dat1 A1 V c) (defs₀ (F := F)) Variants.none () Set.univ := fun t => by
  rw [bigSep_W1, bigSep_W1, row1 A1]
  exact triple_restated (sound_body1 A1 V c t) rfl .rfl fun _ => .rfl

end Second

end Cert.KernelIdeal.Hand

end
-- ==== Proof.Ideal.Calls.lean ====
module

public import proofs.«01_k».proof.Proof.Ideal.Dats
public import proofs.«01_k».proof.Proof.Gen.KernelIdeal.Regions
public import Idealize.ShloMosaic.Lib.Pipeline.Regions

/-! The two calls as steps of the whole program: each entered with every buffer that outlives it held at a
    valuation, and left with the same buffers, the one that it writes updated. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg HostSeg RegionSeg)

variable {F : FTy → Type} [FloatOps F]

local notation "𝕄" => MT nD τ sig Unit (Elt F) ℕ (UR sig nD τ) ℕ

variable (A0 : (pcfg0 (F := F)).Adm) (A1 : (pcfg1 (F := F)).Adm)
variable (m : (ℓ : Loc nD τ sig) → Buf (Elt F) ℓ)

/-- The tables of both calls. -/
def adm : (p : Fin 2) → (pcfgs (F := F) p).Adm
  | 0 => A0
  | 1 => A1
  | ⟨_ + 2, h⟩ => absurd h (Nat.not_lt.2 (Nat.le_add_left _ _))

/-- What the first call leaves in the array that it writes. -/
def res0 (c : Dev nD) : Buf (Elt F) ((c : Thread nD τ).loc main_v4) := (dat0 A0 (V1 m) c).arrAt 2 (cfg0 A0).N

/-- The buffers after the first call, -/
def W2 (c : Dev nD) : Valuation τ sig (Elt F) := Function.update (V1 m c) main_v4 (res0 A0 m c)

/-- after the host operations between the calls, -/
def W3 (c : Dev nD) : Valuation τ sig (Elt F) := StableHlo.after hostOps1 (W2 A0 m c)

/-- What the second call leaves in the array that it writes. -/
def res1 (c : Dev nD) : Buf (Elt F) ((c : Thread nD τ).loc main_v20) := (dat1 A1 (W3 A0 m) c).arrAt 4 (cfg1 A1).N

/-- and at the end. -/
def W4 (c : Dev nD) : Valuation τ sig (Elt F) := Function.update (W3 A0 m c) main_v20 (res1 A0 A1 m c)

theorem W2_of (c : Dev nD) (r : Ref sig .tc) (h : r ≠ main_v4) : W2 A0 m c r = V1 m c r := by
  unfold W2
  simp only [Function.update_of_ne (StableHlo.devRef_ne_of_ne h : (Proc.devRef .tc r : DevRef τ sig) ≠ Proc.devRef .tc main_v4)]

theorem W2_self (c : Dev nD) : W2 A0 m c main_v4 = res0 A0 m c := by
  unfold W2; exact Function.update_self ..

theorem W3_of (c : Dev nD) (r : Ref sig .tc) (h : r ∉ hostOps1_W) : W3 A0 m c r = W2 A0 m c r :=
  StableHlo.after_of_writes_sub hostOps1 _ hostOps1_writes h

theorem W4_of (c : Dev nD) (r : Ref sig .tc) (h : r ≠ main_v20) : W4 A0 A1 m c r = W3 A0 m c r := by
  unfold W4
  simp only [Function.update_of_ne (StableHlo.devRef_ne_of_ne h : (Proc.devRef .tc r : DevRef τ sig) ≠ Proc.devRef .tc main_v20)]

theorem W4_self (c : Dev nD) : W4 A0 A1 m c main_v20 = res1 A0 A1 m c := by
  unfold W4; exact Function.update_self ..

/-- A buffer that nothing writes ends as it was at launch. -/
theorem W4_arg (c : Dev nD) (r : Ref sig .tc) (h₁ : r ∉ hostOps0_W) (h₂ : r ≠ main_v4) (h₃ : r ∉ hostOps1_W) (h₄ : r ≠ main_v20) :
    W4 A0 A1 m c r = m ((c : Thread nD τ).loc r) :=
  (W4_of A0 A1 m c r h₄).trans <| (W3_of A0 m c r h₃).trans <| (W2_of A0 m c r h₂).trans <| (V1_of m c r h₁).trans rfl

/-- Both calls' proof data. -/
def pdats : (p : Fin 2) → (c : Dev nD) → Dat τ (Elt F) Unit ℕ (UR sig nD τ) ℕ (Pipeline.pin (pcfgs (F := F)) (adm A0 A1) p) c
  | 0 => fun c => dat0 A0 (V1 m) c
  | 1 => fun c => dat1 A1 (W3 A0 m) c
  | ⟨_ + 2, h⟩ => absurd h (Nat.not_lt.2 (Nat.le_add_left _ _))

abbrev L : GSem nD τ sig → Finset Unit := fun _ => ∅
abbrev lv : GSem nD τ sig → Unit → ℕ := fun _ _ => 0

/-- What rides along between the steps: nothing owed, at some record of waits. -/
abbrev rest (c : Dev nD) : sProp 𝕄 := iprop(∃ W, owes (c : Thread nD τ) (0 : CellTallies nD τ sig Unit) W)

include A0 A1 in
/-- The buffers that outlive call 0, sorted into its windows' arrays, its table and the others. -/
theorem held_split0 (c : Dev nD) (W : Valuation τ sig (Elt F)) :
    (StableHlo.held (c : Thread nD τ) (Pipeline.ucRefs τ sig) W : sProp 𝕄)
      = iprop((bigSep Finset.univ fun w : Fin 3 => (((c.tc : Thread nD τ).loc (Pipeline.arrRef spec0 w)) ↦{fullShare} W (Pipeline.arrRef spec0 w) : sProp 𝕄))
        ∗ Pipeline.prefHeld pre0 c (fun _ => fullShare) (fun j => W (pre0.ref j)) ∗ Pipeline.unscopedRestP pre0 spec0 c (fun b => W b)) :=
  (Pipeline.unscopedBufs_held c W).symm.trans <|
    (Pipeline.unscopedBufs_split (Pipeline.pin (pcfgs (F := F)) (adm A0 A1)) 0 winFacts0.arr_unscoped winFacts0.arr_inj c (fun b => W b)).trans <|
    congrArg (fun P : sProp 𝕄 => iprop((bigSep Finset.univ fun w : Fin 3 => (((c.tc : Thread nD τ).loc (Pipeline.arrRef spec0 w)) ↦{fullShare} W (Pipeline.arrRef spec0 w) : sProp 𝕄)) ∗ P))
      (Pipeline.unscopedRest_split preFacts0 c (fun b => W b))

/-- Its arrays at contents `G` are those buffers held at any valuation that has them at `G`. -/
theorem arrays_eq0 (c : Dev nD) (W : Valuation τ sig (Elt F))
    (G : (w : Fin 3) → Buf (Elt F) ((spec0 w).arr.view.loc (c.tc : Thread nD τ))) (h : ∀ w, G w = W (Pipeline.arrRef spec0 w)) :
    (pdats A0 A1 m 0 c).arrays G
      = (bigSep Finset.univ fun w : Fin 3 => (((c.tc : Thread nD τ).loc (Pipeline.arrRef spec0 w)) ↦{fullShare} W (Pipeline.arrRef spec0 w) : sProp 𝕄)) :=
  (Pipeline.arrays_eq (Pipeline.pin (pcfgs (F := F)) (adm A0 A1)) (pdats A0 A1 m) 0 c arr_whole0
      ((pdats A0 A1 m 0 c).share_full fun _ => rfl) G).trans
    (bigSep_congr fun w _ => by rw [h w]; rfl)

include A0 A1 in
/-- The buffers that outlive call 1, sorted into its windows' arrays, its table and the others. -/
theorem held_split1 (c : Dev nD) (W : Valuation τ sig (Elt F)) :
    (StableHlo.held (c : Thread nD τ) (Pipeline.ucRefs τ sig) W : sProp 𝕄)
      = iprop((bigSep Finset.univ fun w : Fin 5 => (((c.tc : Thread nD τ).loc (Pipeline.arrRef spec1 w)) ↦{fullShare} W (Pipeline.arrRef spec1 w) : sProp 𝕄))
        ∗ Pipeline.prefHeld pre1 c (fun _ => fullShare) (fun j => W (pre1.ref j)) ∗ Pipeline.unscopedRestP pre1 spec1 c (fun b => W b)) :=
  (Pipeline.unscopedBufs_held c W).symm.trans <|
    (Pipeline.unscopedBufs_split (Pipeline.pin (pcfgs (F := F)) (adm A0 A1)) 1 winFacts1.arr_unscoped winFacts1.arr_inj c (fun b => W b)).trans <|
    congrArg (fun P : sProp 𝕄 => iprop((bigSep Finset.univ fun w : Fin 5 => (((c.tc : Thread nD τ).loc (Pipeline.arrRef spec1 w)) ↦{fullShare} W (Pipeline.arrRef spec1 w) : sProp 𝕄)) ∗ P))
      (Pipeline.unscopedRest_split preFacts1 c (fun b => W b))

/-- Its arrays at contents `G` are those buffers held at any valuation that has them at `G`. -/
theorem arrays_eq1 (c : Dev nD) (W : Valuation τ sig (Elt F))
    (G : (w : Fin 5) → Buf (Elt F) ((spec1 w).arr.view.loc (c.tc : Thread nD τ))) (h : ∀ w, G w = W (Pipeline.arrRef spec1 w)) :
    (pdats A0 A1 m 1 c).arrays G
      = (bigSep Finset.univ fun w : Fin 5 => (((c.tc : Thread nD τ).loc (Pipeline.arrRef spec1 w)) ↦{fullShare} W (Pipeline.arrRef spec1 w) : sProp 𝕄)) :=
  (Pipeline.arrays_eq (Pipeline.pin (pcfgs (F := F)) (adm A0 A1)) (pdats A0 A1 m) 1 c arr_whole1
      ((pdats A0 A1 m 1 c).share_full fun _ => rfl) G).trans
    (bigSep_congr fun w _ => by rw [h w]; rfl)

variable (h0 : ∀ c : Dev nD, ∀ j, V1 m c (pre0.ref j) = A0.1 j)

include h0 in
theorem tables0 (c : Dev nD) (W : Valuation τ sig (Elt F)) (h : ∀ j, W (pre0.ref j) = V1 m c (pre0.ref j)) :
    (Pipeline.prefHeld pre0 c (fun _ => fullShare) (fun j => W (pre0.ref j)) : sProp 𝕄)
      = Pipeline.prefHeld pre0 c (fun _ => fullShare) A0.1 := by
  congr 1
  funext j
  rw [h j, h0 c j]

/-- What the windows' arrays hold at the end of call 0. -/
theorem final0 (c : Dev nD) : ∀ w : Fin 3, (pdats A0 A1 m 0 c).arrAt w (Pipeline.pin (pcfgs (F := F)) (adm A0 A1) 0).N = W2 A0 m c (Pipeline.arrRef spec0 w)
  | 0 => ((pdats A0 A1 m 0 c).arrAt_in 0 rfl _).trans ((A_eq0 A0 (V1 m) c 0).trans (W2_of A0 m c (Pipeline.arrRef spec0 0) (by decide)).symm)
  | 1 => ((pdats A0 A1 m 0 c).arrAt_in 1 rfl _).trans ((A_eq0 A0 (V1 m) c 1).trans (W2_of A0 m c (Pipeline.arrRef spec0 1) (by decide)).symm)
  | 2 => (W2_self A0 m c).symm
  | ⟨_ + 3, h⟩ => absurd h (Nat.not_lt.2 (Nat.le_add_left _ _))

set_option backward.isDefEq.respectTransparency.types false in
/-- Call 0 as a step of the program. -/
def reg0 (hT : ∀ j : S1001.Idx, BitVec.toNat (w := 32) (A0.1 0 j) < 16) : RegionSeg (pcfgs (F := F)) (adm A0 A1) (pdats A0 A1 m) () defs₀ Variants.none L lv 0 where
  win := (launch0 (F := F)).win.to₀
  block_pos := (launch0 (F := F)).block_pos
  stage_whole := (launch0 (F := F)).stage_whole
  K := PEmpty
  osem j := j.elim
  ho := Pipeline.OwnSemFacts.none _
  hbody c := (obligation0 A0 (V1 m) hT c).loose
  hwaits := Pipeline.hwaits_of_owed_zero _ _ _ _ L lv 0 fun _ _ => rfl
  pre c := iprop(StableHlo.held (c : Thread nD τ) (Pipeline.ucRefs τ sig) (V1 m c) ∗ rest c)
  post c := iprop(StableHlo.held (c : Thread nD τ) (Pipeline.ucRefs τ sig) (W2 A0 m c) ∗ rest c)
  X _ := iprop(emp)
  Y c := Pipeline.prefHeld pre0 c (fun _ => fullShare) A0.1
  Z c := Pipeline.unscopedRestP pre0 spec0 c (fun b => V1 m c b)
  hentry c := by
    rw [held_split0 A0 A1 c (V1 m c), Pipeline.ownSems0_none, tables0 A0 m h0 c _ (fun _ => rfl)]
    iintro ⟨⟨⟨Ha, Ht, Hr⟩, HO⟩, -, -⟩
    imodintro
    isplitl [Ha]
    · iapply (Entails.of_eq (arrays_eq0 A0 A1 m c (V1 m c) _ (fun w => by rfl)).symm) $$ Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (pdats A0 A1 m 0 c).Φ 0 = iprop(Pipeline.prefHeld pre0 c (fun _ => fullShare) A0.1 ∗ Pipeline.scopedRest spec0 c) from rfl]
    iintro ⟨-, Ht, Hr⟩
    isplitl [Ht]; · iexact Ht
    iexact Hr
  hout c := by
    rw [Pipeline.ownSems0_none, show (pdats A0 A1 m 0 c).Φ (Fin.last (Pipeline.pin (pcfgs (F := F)) (adm A0 A1) 0).N)
      = iprop(Pipeline.prefHeld pre0 c (fun _ => fullShare) A0.1 ∗ Pipeline.scopedRest spec0 c) from rfl]
    iintro ⟨Ht, Hr⟩
    isplitl [Ht]; · iexact Ht
    isplitr; · iempintro
    iexact Hr
  hexit c := by
    rw [held_split0 A0 A1 c (W2 A0 m c), tables0 A0 m h0 c _ (fun j => W2_of A0 m c _ (by revert j; decide)),
      show (Pipeline.unscopedRestP pre0 spec0 c (fun b => W2 A0 m c b) : sProp 𝕄) = Pipeline.unscopedRestP pre0 spec0 c (fun b => V1 m c b) from
        bigSep_congr fun b hb => by
          dsimp only; rw [W2_of A0 m c b fun e =>
            (Finset.mem_sdiff.mp (Finset.mem_sdiff.mp hb).1).2 (Finset.mem_image.mpr ⟨2, Finset.mem_univ _, e.symm⟩)]]
    iintro ⟨Ha, HO, HY, HZ⟩
    imodintro
    isplitr [HO]
    · isplitl [Ha]
      · iapply (Entails.of_eq (arrays_eq0 A0 A1 m c (W2 A0 m c) _ (final0 A0 A1 m c))) $$ Ha
      isplitl [HY] <;> iassumption
    · unfold Pipeline.Dat.owesAt Pipeline.owesWithin
      icases HO with ⟨%W, -, HO⟩; iexists W; iexact HO

variable (h1 : ∀ c : Dev nD, ∀ j, W3 A0 m c (pre1.ref j) = A1.1 j)

include h1 in
theorem tables1 (c : Dev nD) (W : Valuation τ sig (Elt F)) (h : ∀ j, W (pre1.ref j) = W3 A0 m c (pre1.ref j)) :
    (Pipeline.prefHeld pre1 c (fun _ => fullShare) (fun j => W (pre1.ref j)) : sProp 𝕄)
      = Pipeline.prefHeld pre1 c (fun _ => fullShare) A1.1 := by
  congr 1
  funext j
  rw [h j, h1 c j]

/-- What the windows' arrays hold at the end of call 1. -/
theorem final1 (c : Dev nD) : ∀ w : Fin 5, (pdats A0 A1 m 1 c).arrAt w (Pipeline.pin (pcfgs (F := F)) (adm A0 A1) 1).N = W4 A0 A1 m c (Pipeline.arrRef spec1 w)
  | 0 => ((pdats A0 A1 m 1 c).arrAt_in 0 rfl _).trans ((A_eq1 A1 (W3 A0 m) c 0).trans (W4_of A0 A1 m c (Pipeline.arrRef spec1 0) (by decide)).symm)
  | 1 => ((pdats A0 A1 m 1 c).arrAt_in 1 rfl _).trans ((A_eq1 A1 (W3 A0 m) c 1).trans (W4_of A0 A1 m c (Pipeline.arrRef spec1 1) (by decide)).symm)
  | 2 => ((pdats A0 A1 m 1 c).arrAt_in 2 rfl _).trans ((A_eq1 A1 (W3 A0 m) c 2).trans (W4_of A0 A1 m c (Pipeline.arrRef spec1 2) (by decide)).symm)
  | 3 => ((pdats A0 A1 m 1 c).arrAt_in 3 rfl _).trans ((A_eq1 A1 (W3 A0 m) c 3).trans (W4_of A0 A1 m c (Pipeline.arrRef spec1 3) (by decide)).symm)
  | 4 => (W4_self A0 A1 m c).symm
  | ⟨_ + 5, h⟩ => absurd h (Nat.not_lt.2 (Nat.le_add_left _ _))

set_option backward.isDefEq.respectTransparency.types false in
/-- Call 1 as a step of the program. -/
def reg1 : RegionSeg (pcfgs (F := F)) (adm A0 A1) (pdats A0 A1 m) () defs₀ Variants.none L lv 1 where
  win := (launch1 (F := F)).win.to₀
  block_pos := (launch1 (F := F)).block_pos
  stage_whole := (launch1 (F := F)).stage_whole
  K := PEmpty
  osem j := j.elim
  ho := Pipeline.OwnSemFacts.none _
  hbody c := (obligation1 A1 (W3 A0 m) c).loose
  hwaits := Pipeline.hwaits_of_owed_zero _ _ _ _ L lv 1 fun _ _ => rfl
  pre c := iprop(StableHlo.held (c : Thread nD τ) (Pipeline.ucRefs τ sig) (W3 A0 m c) ∗ rest c)
  post c := iprop(StableHlo.held (c : Thread nD τ) (Pipeline.ucRefs τ sig) (W4 A0 A1 m c) ∗ rest c)
  X _ := iprop(emp)
  Y c := Pipeline.prefHeld pre1 c (fun _ => fullShare) A1.1
  Z c := Pipeline.unscopedRestP pre1 spec1 c (fun b => W3 A0 m c b)
  hentry c := by
    rw [held_split1 A0 A1 c (W3 A0 m c), Pipeline.ownSems0_none, tables1 A0 A1 m h1 c _ (fun _ => rfl)]
    iintro ⟨⟨⟨Ha, Ht, Hr⟩, HO⟩, -, -⟩
    imodintro
    isplitl [Ha]
    · iapply (Entails.of_eq (arrays_eq1 A0 A1 m c (W3 A0 m c) _ (fun w => by rfl)).symm) $$ Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (pdats A0 A1 m 1 c).Φ 0 = iprop(Pipeline.prefHeld pre1 c (fun _ => fullShare) A1.1 ∗ Pipeline.scopedRest spec1 c) from rfl]
    iintro ⟨-, Ht, Hr⟩
    isplitl [Ht]; · iexact Ht
    iexact Hr
  hout c := by
    rw [Pipeline.ownSems0_none, show (pdats A0 A1 m 1 c).Φ (Fin.last (Pipeline.pin (pcfgs (F := F)) (adm A0 A1) 1).N)
      = iprop(Pipeline.prefHeld pre1 c (fun _ => fullShare) A1.1 ∗ Pipeline.scopedRest spec1 c) from rfl]
    iintro ⟨Ht, Hr⟩
    isplitl [Ht]; · iexact Ht
    isplitr; · iempintro
    iexact Hr
  hexit c := by
    rw [held_split1 A0 A1 c (W4 A0 A1 m c), tables1 A0 A1 m h1 c _ (fun j => W4_of A0 A1 m c _ (by revert j; decide)),
      show (Pipeline.unscopedRestP pre1 spec1 c (fun b => W4 A0 A1 m c b) : sProp 𝕄) = Pipeline.unscopedRestP pre1 spec1 c (fun b => W3 A0 m c b) from
        bigSep_congr fun b hb => by
          dsimp only; rw [W4_of A0 A1 m c b fun e =>
            (Finset.mem_sdiff.mp (Finset.mem_sdiff.mp hb).1).2 (Finset.mem_image.mpr ⟨4, Finset.mem_univ _, e.symm⟩)]]
    iintro ⟨Ha, HO, HY, HZ⟩
    imodintro
    isplitr [HO]
    · isplitl [Ha]
      · iapply (Entails.of_eq (arrays_eq1 A0 A1 m c (W4 A0 A1 m c) _ (final1 A0 A1 m c))) $$ Ha
      isplitl [HY] <;> iassumption
    · unfold Pipeline.Dat.owesAt Pipeline.owesWithin
      icases HO with ⟨%W, -, HO⟩; iexists W; iexact HO

end Cert.KernelIdeal.Hand

end
-- ==== Proof.Ideal.Run.lean ====
module

public import proofs.«01_k».proof.Proof.Ideal.Calls
public import Idealize.ShloMosaic.Lib.Claim

/-! The whole program: it runs to its end, leaves its arguments as they were and every counter at zero, and
    leaves in its result what the second call's proof data computes. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg HostSeg RegionSeg)

variable {F : FTy → Type} [FloatOps F]

local notation "𝕄" => MT nD τ sig Unit (Elt F) ℕ (UR sig nD τ) ℕ

variable (A0 : (pcfg0 (F := F)).Adm) (A1 : (pcfg1 (F := F)).Adm)
variable (m : (ℓ : Loc nD τ sig) → Buf (Elt F) ℓ) (ρ : Dev nD → PrngReg)

/-- The host operations before the calls, -/
def host0 : HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) rest

/-- and between them. -/
def host1 : HostSeg (Ix := Unit) (Name := ℕ) (U := UR sig nD τ) (Lvl := ℕ) (pcfgs (F := F)) defs₀ Variants.none L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 A0 m) rest

variable (h0 : ∀ c : Dev nD, ∀ j, V1 m c (pre0.ref j) = A0.1 j)
variable (hT : ∀ j : S1001.Idx, BitVec.toNat (w := 32) (A0.1 0 j) < 16)
variable (h1 : ∀ c : Dev nD, ∀ j, W3 A0 m c (pre1.ref j) = A1.1 j)

/-- The program's four steps. -/
abbrev steps : List (Seg (pcfgs (F := F)) (adm A0 A1) (pdats A0 A1 m) () defs₀ Variants.none L lv) :=
  [.host (host0 m), .region (reg0 A0 A1 m h0 hT), .host (host1 A0 m), .region (reg1 A0 A1 m h1)]

/-- A buffer that outlives the calls ends at `W4`. -/
def Ends (c : Dev nD) (s : MemSt nD τ sig (Elt F)) (r : Ref sig .tc) : Prop :=
  s.mem ((c.tc : Thread nD τ).loc r) = W4 A0 A1 m c r

include h0 hT h1 in
set_option backward.isDefEq.respectTransparency.types false in
theorem run_main :
    θ_run defs (onTc (τ := τ) (main (F := F))) ⟨m, fun _ => 0, ρ⟩ (fun r =>
      (∀ c : Dev nD, Ends A0 A1 m c r.2 main_v20 ∧ Ends A0 A1 m c r.2 main_arg0 ∧ Ends A0 A1 m c r.2 main_arg1
        ∧ Ends A0 A1 m c r.2 main_arg2 ∧ Ends A0 A1 m c r.2 main_arg3)
      ∧ r.2.sem = fun _ => 0) := by
  refine Pipeline.θ_run_regions_kit_dev_sems (pcfgs (F := F)) (adm A0 A1) (pdats A0 A1 m) () (cellOf_inj (adm A0 A1)) emb₁ defs₀ Variants.none L lv m ρ main
    (fun _ => steps A0 A1 m h0 hT h1)
    (fun c Q => by
      rewrite [main_chain c, Seg.run_eq_chain,
        show (steps A0 A1 m h0 hT h1).map Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (fun c => by simp only [steps, Seg.pipes_host, Seg.pipes_region, Seg.pipes_nil]; decide) (O₀ := 0) (hL := fun _ _ => rfl)
    (G := fun _ => iprop(emp))
    (u₀ := initOf (Pipeline.cells (Pipeline.pin (pcfgs (F := F)) (adm A0 A1)) (cellOf_inj (adm A0 A1))) (Pipeline.launchToks (Pipeline.pin (pcfgs (F := F)) (adm A0 A1)) (cellOf_inj (adm A0 A1))))
    (hu₀ := ?_)
    (T₀ := fun c => iprop(StableHlo.held (c : Thread nD τ) (Pipeline.ucRefs τ sig) (V0 m c) ∗ rest c))
    (Tₙ := fun c => StableHlo.held (c : Thread nD τ) (Pipeline.ucRefs τ sig) (W4 A0 A1 m c))
    (hch := fun c => ⟨.rfl, .rfl, .rfl, .rfl, .rfl⟩)
    (hinit := ?_) (QY := fun c s => Ends A0 A1 m c s main_v20 ∧ Ends A0 A1 m c s main_arg0 ∧ Ends A0 A1 m c s main_arg1
        ∧ Ends A0 A1 m c s main_arg2 ∧ Ends A0 A1 m c s main_arg3)
    (hfin := fun c s' => ?_) (hQ := fun _ h hz => ⟨h, funext fun g => hz g (.inr (regions_no_unscoped g.2))⟩)
  · iintro Hu
    imodintro
    isplitl [Hu]; · iapply (show (ownU _ : sProp 𝕄) ⊢ BI.own (emb₁ (initOf (Pipeline.cells (Pipeline.pin (pcfgs (F := F)) (adm A0 A1)) (cellOf_inj (adm A0 A1))) (Pipeline.launchToks (Pipeline.pin (pcfgs (F := F)) (adm A0 A1)) (cellOf_inj (adm A0 A1))))) from .rfl); iexact Hu
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (W4 A0 A1 m c) s') $$ [Hh HSI]
    · isplitl [Hh] <;> iassumption
    icases Hr with ⟨%h, HSI⟩
    imodintro
    isplitr
    · ipureintro
      exact ⟨h (Proc.devRef .tc main_v20) (Finset.mem_filter.mpr ⟨StableHlo.devRef_mem_tcRefs main_v20, by decide⟩),
        h (Proc.devRef .tc main_arg0) (Finset.mem_filter.mpr ⟨StableHlo.devRef_mem_tcRefs main_arg0, by decide⟩),
        h (Proc.devRef .tc main_arg1) (Finset.mem_filter.mpr ⟨StableHlo.devRef_mem_tcRefs main_arg1, by decide⟩),
        h (Proc.devRef .tc main_arg2) (Finset.mem_filter.mpr ⟨StableHlo.devRef_mem_tcRefs main_arg2, by decide⟩),
        h (Proc.devRef .tc main_arg3) (Finset.mem_filter.mpr ⟨StableHlo.devRef_mem_tcRefs main_arg3, by decide⟩)⟩
    · iexact HSI

include h0 hT h1 in
/-- The run read at the result and the arguments. -/
theorem run_values :
    θ_run defs (onTc (τ := τ) (main (F := F))) ⟨m, fun _ => 0, ρ⟩ (fun r =>
      (∀ c : Dev nD, r.2.mem ((c.tc : Thread nD τ).loc main_v20) = res1 A0 A1 m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0) :=
  (θ_run defs _ _).mono (fun _ h => ⟨fun c =>
    ⟨(h.1 c).1.trans (W4_self A0 A1 m c),
      (h.1 c).2.1.trans (W4_arg A0 A1 m c main_arg0 (by decide) (by decide) (by decide) (by decide)),
      (h.1 c).2.2.1.trans (W4_arg A0 A1 m c main_arg1 (by decide) (by decide) (by decide) (by decide)),
      (h.1 c).2.2.2.1.trans (W4_arg A0 A1 m c main_arg2 (by decide) (by decide) (by decide) (by decide)),
      (h.1 c).2.2.2.2.trans (W4_arg A0 A1 m c main_arg3 (by decide) (by decide) (by decide) (by decide))⟩, h.2⟩)
    (run_main A0 A1 m ρ h0 hT h1)

end Cert.KernelIdeal.Hand

end
-- ==== Proof.Ideal.Tables.lean ====
module

public import proofs.«01_k».proof.Proof.Ideal.Run
public import Idealize.ShloMosaic.Lib.Routing.Ops

/-! The two tables that the calls prefetch, read off the launch memory: the number of the segment at the first row of
    every block of a thousand rows (and at the last row of all), and, for every boundary between two segments, the
    block that it falls in. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.Sem

variable {F : FTy → Type} [FloatOps F]

/-- The row of that number, among a million. -/
def rowIx (n : Nat) : S1000000.Idx := ValueIdx.ix1 ⟨n % 1000000, Nat.mod_lt _ (by decide)⟩

/-- The segment's number at the first row of block `k`; at `k = 1000`, at the last row. -/
def bound (b : S1000000.Idx → BitVec 32) (k : Nat) : BitVec 32 := b (rowIx (if k < 1000 then 1000 * k else 999999))

/-- The segment numbers lie below sixteen, and the last is fifteen. -/
def InRange (b : S1000000.Idx → BitVec 32) : Prop := (∀ y, (b y).toNat < 16) ∧ (b (rowIx 999999)).toNat = 15

/-- The block that the boundary below segment `t + 1` falls in. -/
def cut (b : S1000000.Idx → BitVec 32) (t : Nat) : Nat := Nat.count (fun k => (bound b k).toNat ≤ t) 1001 - 1

theorem bound_lt {b : S1000000.Idx → BitVec 32} (hb : InRange b) (k : Nat) : (bound b k).toNat < 16 := hb.1 _

theorem count_le {b : S1000000.Idx → BitVec 32} (hb : InRange b) {t : Nat} (ht : t < 15) :
    Nat.count (fun k => (bound b k).toNat ≤ t) 1001 ≤ 1000 := by
  rw [Nat.count_succ, if_neg (by
    have : bound b 1000 = b (rowIx 999999) := rfl
    rw [this, hb.2]; omega)]
  exact Nat.count_le _

theorem cut_le {b : S1000000.Idx → BitVec 32} (hb : InRange b) {t : Nat} (ht : t < 15) : cut b t ≤ 999 := by
  have := count_le hb ht
  unfold cut; omega

theorem cut_mono (b : S1000000.Idx → BitVec 32) {t t' : Nat} (h : t ≤ t') : cut b t ≤ cut b t' := by
  unfold cut
  exact Nat.sub_le_sub_right (Nat.count_mono_left fun k _ hk => Nat.le_trans hk h) 1

variable (m : (ℓ : Loc nD τ sig) → Buf (Elt F) ℓ)

/-- The segment numbers at launch. -/
abbrev segs (c : Dev nD) : S1000000.Idx → BitVec 32 := m ((c : Thread nD τ).loc main_arg1)

theorem tab0_eq (c : Dev nD) : (V1 m c main_v2 : S1001.Idx → BitVec 32)
    = concatenate S1001 0 [⟨S1000, Host.slice S1000 ![0] ![1000] (segs m c) slicesBy_S1000000_S1000_0s1000⟩,
        ⟨S1, extractStridedSlice S1 ![999999] (segs m c) slices_S1000000_S1_999999⟩] concatenates_S1000_S1_S1001_d0 := by
  show StableHlo.after hostOps0 (V0 m c) (Proc.devRef .tc main_v2) = _
  simp only [hostOps0]
  after_results <;> rfl

theorem tab0_at (c : Dev nD) (j : S1001.Idx) : (V1 m c main_v2 : S1001.Idx → BitVec 32) j = bound (segs m c) (j 0).val := by
  rw [tab0_eq]
  have hj : (j 0).val < 1001 := (j 0).isLt
  by_cases h : (j 0).val < 1000
  · rw [concatenate_pair_apply_left (t := S1001) (s₁ := S1000) (s₂ := S1) 0 _ _ concatenates_S1000_S1_S1001_d0 j rfl (ValueIdx.ix1 (n := 1000) ⟨(j 0).val, h⟩)
      (fun b => by obtain rfl : b = 0 := Subsingleton.elim _ _; rfl)]
    unfold bound
    rw [if_pos h]
    refine congrArg (segs m c) (funext fun a => ?_)
    obtain rfl : a = 0 := Subsingleton.elim _ _
    refine Fin.ext ?_
    show 0 + 1000 * (j 0).val = 1000 * (j 0).val % 1000000
    rw [Nat.mod_eq_of_lt (by omega), Nat.zero_add]
  · rw [concatenate_pair_apply_right (t := S1001) (s₁ := S1000) (s₂ := S1) 0 _ _ concatenates_S1000_S1_S1001_d0 j rfl rfl (ValueIdx.ix1 (n := 1) ⟨0, by decide⟩)
      (fun b hb => absurd (Subsingleton.elim _ _) hb)
      (by show 0 + 1000 = (j 0).val; omega)]
    unfold bound
    rw [if_neg h]
    refine congrArg (segs m c) (funext fun a => ?_)
    obtain rfl : a = 0 := Subsingleton.elim _ _
    rfl

variable (A0 : (pcfg0 (F := F)).Adm)

theorem v2_kept (c : Dev nD) : W2 A0 m c main_v2 = V1 m c main_v2 := W2_of A0 m c main_v2 (by decide)

theorem tab1_eq (c : Dev nD) : (W3 A0 m c main_v18 : S15.Idx → BitVec 32)
    = maxsi (subi (Host.reduce IntOp.addi (extui 32
        (cmpi .slt (broadcastInDim S15x1001 ![0, 1] bcast_S1x1001_S15x1001_0_1 (broadcastInDim S1x1001 ![1] bcast_S1001_S1x1001_1 (V1 m c main_v2 : S1001.Idx → BitVec 32)))
          (broadcastInDim S15x1001 ![0, 1] bcast_S15x1_S15x1001_0_1 (broadcastInDim S15x1 ![0] bcast_S15_S15x1_0
            (addi (broadcastInDim S15 ![] bcast_S_S15 (constantI S_ 32 1#32)) (iotaInDim S15 32 0)))))
        natLt_1_32) (constantI S_ 32 0#32) reducesTo_S15x1001_S15_d1 h_S_)
        (broadcastInDim S15 ![] bcast_S_S15 (constantI S_ 32 1#32)))
      (broadcastInDim S15 ![] bcast_S_S15 (constantI S_ 32 0#32)) := by
  rw [← v2_kept m A0 c]
  show StableHlo.after hostOps1 (W2 A0 m c) (Proc.devRef .tc main_v18) = _
  generalize W2 A0 m c = V
  simp only [hostOps1]
  after_results <;> rfl

theorem slt_iff {x : BitVec 32} (hx : x.toNat < 16) (t : Fin 15) :
    BitVec.ofBool (BitVec.slt x (1#32 + BitVec.ofNat 32 t.val)) = 1#1 ↔ x.toNat ≤ t.val := by
  have ht := t.isLt
  have e : (1#32 + BitVec.ofNat 32 t.val).toNat = t.val + 1 := by
    rw [BitVec.toNat_add, BitVec.toNat_ofNat, BitVec.toNat_ofNat]; omega
  have h1 : x.toInt = x.toNat := by rw [BitVec.toInt_eq_toNat_cond, if_pos (by omega)]
  have h2 : (1#32 + BitVec.ofNat 32 t.val).toInt = ((t.val + 1 : Nat) : Int) := by
    rw [BitVec.toInt_eq_toNat_cond, e, if_pos (by omega)]
  have h3 : ∀ p : Bool, BitVec.ofBool p = 1#1 ↔ p = true := by decide
  rw [h3, BitVec.slt, decide_eq_true_eq, h1, h2]
  omega

theorem less_one {N : Nat} (h : N ≤ 1000) : IntOp.maxsi (IntOp.subi (BitVec.ofNat 32 N) 1#32) 0#32 = BitVec.ofNat 32 (N - 1) := by
  unfold IntOp.maxsi IntOp.subi
  rcases N with _ | n
  · decide
  · have e : BitVec.ofNat 32 (n + 1) - 1#32 = BitVec.ofNat 32 n := by
      apply BitVec.eq_of_toNat_eq
      rw [BitVec.toNat_sub, BitVec.toNat_ofNat, BitVec.toNat_ofNat, BitVec.toNat_ofNat]
      omega
    rw [e, Nat.add_sub_cancel]
    by_cases hn : n = 0
    · subst hn; decide
    · have h1 : (BitVec.ofNat 32 n).toInt = n := by
        rw [BitVec.toInt_eq_toNat_cond, BitVec.toNat_ofNat, Nat.mod_eq_of_lt (by omega), if_pos (by omega)]
      have : BitVec.slt 0#32 (BitVec.ofNat 32 n) = true := by
        rw [BitVec.slt, decide_eq_true_eq, h1]
        show (0 : Int) < n
        omega
      rw [if_pos this]

theorem row_at (f : S1001.Idx → BitVec 32) (t : Fin 15) (q : Fin 1001) :
    broadcastInDim S15x1001 ![0, 1] bcast_S1x1001_S15x1001_0_1 (broadcastInDim S1x1001 ![1] bcast_S1001_S1x1001_1 f) (ValueIdx.ix2 t q)
      = f (ValueIdx.ix1 q) := by
  refine congrArg f (funext fun a => ?_)
  obtain rfl : a = 0 := Subsingleton.elim _ _
  rfl

theorem tab1_at {c : Dev nD} (hb : InRange (segs m c)) (t : Fin 15) :
    (W3 A0 m c main_v18 : S15.Idx → BitVec 32) (ValueIdx.ix1 t) = BitVec.ofNat 32 (cut (segs m c) t.val) := by
  rw [tab1_eq]
  have hc := Routing.reduce_count (n := 15) (m := 1001) (by decide)
    (cmpi .slt (broadcastInDim S15x1001 ![0, 1] bcast_S1x1001_S15x1001_0_1 (broadcastInDim S1x1001 ![1] bcast_S1001_S1x1001_1 (V1 m c main_v2 : S1001.Idx → BitVec 32)))
          (broadcastInDim S15x1001 ![0, 1] bcast_S15x1_S15x1001_0_1 (broadcastInDim S15x1 ![0] bcast_S15_S15x1_0
            (addi (broadcastInDim S15 ![] bcast_S_S15 (constantI S_ 32 1#32)) (iotaInDim S15 32 0)))))
    natLt_1_32 reducesTo_S15x1001_S15_d1 h_S_ t (fun k => (bound (segs m c) k).toNat ≤ t.val) (by
      intro q
      have hv : (broadcastInDim S15x1001 ![0, 1] bcast_S1x1001_S15x1001_0_1 (broadcastInDim S1x1001 ![1] bcast_S1001_S1x1001_1 (V1 m c main_v2 : S1001.Idx → BitVec 32)))
          (ValueIdx.ix2 t q) = bound (segs m c) q.val := (row_at _ t q).trans (tab0_at m c (ValueIdx.ix1 q))
      show BitVec.ofBool (BitVec.slt ((broadcastInDim S15x1001 ![0, 1] bcast_S1x1001_S15x1001_0_1 (broadcastInDim S1x1001 ![1] bcast_S1001_S1x1001_1 (V1 m c main_v2 : S1001.Idx → BitVec 32)))
          (ValueIdx.ix2 t q)) (1#32 + BitVec.ofNat 32 t.val)) = 1#1 ↔ _
      rw [hv]
      exact slt_iff (bound_lt hb q.val) t)
  show IntOp.maxsi (IntOp.subi _ 1#32) 0#32 = _
  erw [hc]
  have hle := count_le hb t.isLt
  unfold cut
  generalize Nat.count (fun k => (bound (segs m c) k).toNat ≤ t.val) 1001 = N at hle ⊢
  exact less_one hle

/-! ## What the second call asks of its table -/

theorem at_eq (pf : pre1.Contents (Elt F)) (i : grid1.Coords) :
    pf.at 0 (Rect.unit (s := S15) (k1_off1 i) S1.size (k1_off1_inb i)) numel1_S1 = (pf 0 : S15.Idx → BitVec 32) (ValueIdx.ix1 ⟨(i 0).val, (i 0).isLt⟩) := by
  have e : ∀ (y : (Rect.unit (s := S15) (k1_off1 i) S1.size (k1_off1_inb i)).shape.Idx),
      (Rect.unit (s := S15) (k1_off1 i) S1.size (k1_off1_inb i)).emb y = (ValueIdx.ix1 ⟨(i 0).val, (i 0).isLt⟩ : S15.Idx) := fun y => by
    refine funext fun (a : Fin 1) => ?_
    obtain rfl : a = 0 := Subsingleton.elim _ _
    refine Fin.ext ?_
    show (k1_off1 i) 0 + 1 * (y 0).val = (i 0).val
    have hy : (y 0).val < 1 := (y 0).isLt
    have ho : k1_off1 i 0 = (i 0).val := congrFun (k1_off1_eq i) 0
    rw [Nat.lt_one_iff.1 hy, Nat.mul_zero, Nat.add_zero]
    exact ho
  exact congrArg (pf 0 : S15.Idx → BitVec 32) (e _)

/-- The block that the second call's table names at a point. -/
def entry (pf : pre1.Contents (Elt F)) (i : grid1.Coords) : Nat := BitVec.toNat (w := 32) ((pf 0 : S15.Idx → BitVec 32) (ValueIdx.ix1 ⟨(i 0).val, (i 0).isLt⟩))

theorem t0_eq (pf : pre1.Contents (Elt F)) (i : grid1.Coords) : cc1_transform_0 k1_off1_inb numel1_S1 pf i = ![entry pf i, 0, 0] :=
  congrArg (fun v : BitVec 32 => ![v.toNat, 0, 0]) (at_eq pf i)
theorem t2_eq (pf : pre1.Contents (Elt F)) (i : grid1.Coords) : cc1_transform_2 k1_off1_inb numel1_S1 pf i = ![entry pf i, 0] :=
  congrArg (fun v : BitVec 32 => ![v.toNat, 0]) (at_eq pf i)
theorem t3_eq (pf : pre1.Contents (Elt F)) (i : grid1.Coords) : cc1_transform_3 k1_off1_inb numel1_S1 pf i = ![entry pf i, 0] :=
  congrArg (fun v : BitVec 32 => ![v.toNat, 0]) (at_eq pf i)
theorem t4_eq (pf : pre1.Contents (Elt F)) (i : grid1.Coords) : cc1_transform_4 k1_off1_inb numel1_S1 pf i = ![entry pf i, 0] :=
  congrArg (fun v : BitVec 32 => ![v.toNat, 0]) (at_eq pf i)

theorem inb2 {n : Nat} (h : n ≤ 999) : ∀ a, (![n, 0] a + 1) * S1000x64.size a ≤ S1000000x64.size a := by
  intro a
  match a with
  | ⟨0, _⟩ => show (n + 1) * 1000 ≤ 1000000; omega
  | ⟨1, _⟩ => show (0 + 1) * 64 ≤ 64; omega

theorem inb3 {n : Nat} (h : n ≤ 999) : ∀ a, (![n, 0, 0] a + 1) * S1x1x1000.size a ≤ S1000x1x1000.size a := by
  intro a
  match a with
  | ⟨0, _⟩ => show (n + 1) * 1 ≤ 1000; omega
  | ⟨1, _⟩ => show (0 + 1) * 1 ≤ 1; omega
  | ⟨2, _⟩ => show (0 + 1) * 1000 ≤ 1000; omega

/-- A table of blocks inside the array, in order, is one that the call admits. -/
theorem ok1_of (pf : pre1.Contents (Elt F)) (h : ∀ i, entry pf i ≤ 999)
    (hm : ∀ u u' : Fin grid1.N, u.val ≤ u'.val → entry pf (grid1.coords u) ≤ entry pf (grid1.coords u')) : ok1 pf := by
  refine ⟨fun i => ⟨by rw [t0_eq]; exact inb3 (h i), Or.inl rfl⟩, fun i => ⟨by rw [t2_eq]; exact inb2 (h i), Or.inl rfl⟩,
    fun i => ⟨by rw [t3_eq]; exact inb2 (h i), Or.inl rfl⟩, fun i => ⟨by rw [t4_eq]; exact inb2 (h i), Or.inl rfl⟩, ?_⟩
  refine ⟨rfl, rfl, rfl, ?_, ?_, ?_⟩
  · intro a a' ha
    obtain rfl : a = a' := Fin.ext ha
    rfl
  · intro i a a' ha
    obtain rfl : a = a' := Fin.ext ha
    exact congrFun ((t3_eq pf i).trans (t4_eq pf i).symm) a
  · intro u u' hlt _ hflush heq
    have key : ∀ v v' : Fin grid1.N, cc1_transform_4 k1_off1_inb numel1_S1 pf (grid1.coords v) = cc1_transform_4 k1_off1_inb numel1_S1 pf (grid1.coords v')
        ↔ entry pf (grid1.coords v) = entry pf (grid1.coords v') := by
      intro v v'
      rw [t4_eq, t4_eq]
      exact ⟨fun e => congrFun e 0, fun e => by rw [e]⟩
    have e : entry pf (grid1.coords u') = entry pf (grid1.coords u) := (key u' u).1 heq
    have hN : u'.val + 1 < grid1.N := Nat.lt_of_le_of_lt hlt u.isLt
    have hne : entry pf (grid1.coords ⟨u'.val + 1, hN⟩) ≠ entry pf (grid1.coords u') := by
      intro e'
      have hf : (true && (decide (u'.val + 1 = grid1.N) || decide (∃ h : u'.val + 1 < grid1.N,
          cc1_transform_4 k1_off1_inb numel1_S1 pf (grid1.coords ⟨u'.val + 1, h⟩) ≠ cc1_transform_4 k1_off1_inb numel1_S1 pf (grid1.coords u')))) = true := hflush
      rw [Bool.true_and, Bool.or_eq_true, decide_eq_true_eq, decide_eq_true_eq] at hf
      rcases hf with hf | ⟨_, hf⟩
      · omega
      · exact hf ((key _ _).2 e')
    have h1 := hm u' ⟨u'.val + 1, hN⟩ (Nat.le_succ _)
    have h2 := hm ⟨u'.val + 1, hN⟩ u hlt
    omega

/-! ## The tables of a launch -/

/-- The first call's table, -/
def T0 : (pcfg0 (F := F)).Adm := ⟨fun k => V1 m 0 (pre0.ref k), trivial⟩

theorem h0 : ∀ c : Dev nD, ∀ j, V1 m c (pre0.ref j) = (T0 m).1 j := by
  intro c j
  obtain rfl : c = 0 := Subsingleton.elim _ _
  rfl

theorem hT (hb : InRange (segs m 0)) : ∀ j : S1001.Idx, BitVec.toNat (w := 32) ((T0 m).1 0 j) < 16 := by
  intro j
  have : ((T0 m).1 0 j : BitVec 32) = bound (segs m 0) (j 0).val := tab0_at m 0 j
  exact this ▸ bound_lt hb _

theorem entry_eq (hb : InRange (segs m 0)) (i : grid1.Coords) :
    entry (fun k => W3 A0 m 0 (pre1.ref k)) i = cut (segs m 0) (i 0).val := by
  have h := cut_le hb (t := (i 0).val) (i 0).isLt
  refine (congrArg (BitVec.toNat (w := 32)) (tab1_at m A0 hb ⟨(i 0).val, (i 0).isLt⟩)).trans ?_
  rw [BitVec.toNat_ofNat, Nat.mod_eq_of_lt (by show cut (segs m 0) (i 0).val < _; omega)]

theorem coord_val (u : Fin grid1.N) : (grid1.coords u 0).val = u.val := by
  revert u; decide

theorem ok1_launch (hb : InRange (segs m 0)) : ok1 (F := F) (fun k => W3 A0 m 0 (pre1.ref k)) :=
  ok1_of _ (fun i => (entry_eq m A0 hb i).trans_le (cut_le hb (i 0).isLt)) fun u u' h => by
    rw [entry_eq m A0 hb, entry_eq m A0 hb, coord_val, coord_val]
    exact cut_mono _ h

/-- and the second's. -/
def T1 (hb : InRange (segs m 0)) : (pcfg1 (F := F)).Adm := ⟨fun k => W3 (T0 m) m 0 (pre1.ref k), ok1_launch m (T0 m) hb⟩

theorem h1 (hb : InRange (segs m 0)) : ∀ c : Dev nD, ∀ j, W3 (T0 m) m c (pre1.ref j) = (T1 m hb).1 j := by
  intro c j
  obtain rfl : c = 0 := Subsingleton.elim _ _
  rfl

/-- From a launch whose segment numbers are in range the program terminates, its result what the second call leaves. -/
theorem run_launch (hb : InRange (segs m 0)) (ρ : Dev nD → PrngReg) :
    θ_run (defs (F := F)) (onTc (τ := τ) (main (F := F))) ⟨m, fun _ => 0, ρ⟩ (fun r => (∀ c : Dev nD,
      r.2.mem ((c.tc : Thread nD τ).loc main_v20) = res1 (T0 m) (T1 m hb) m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  run_values (T0 m) (T1 m hb) m ρ (h0 m) (hT m hb) (h1 m hb)

end Cert.KernelIdeal.Hand
-- ==== Proof.Frames.lean ====
module

public import proofs.«01_k».proof.Defs
public import proofs.«01_k».proof.Proof.Pre
public import proofs.«01_k».proof.Proof.Ideal.Tables
public import proofs.«01_k».proof.Proof.Bits.Tables
public import proofs.«01_k».proof.Proof.Gen.ReferenceIdeal
public import proofs.«01_k».proof.Proof.Gen.ReferenceIdeal.Run
public import Idealize.ShloMosaic.Lib.Quiescent

/-! Every program terminates, leaves its arguments as they were and every semaphore at zero. -/

@[expose] public section

set_option maxRecDepth 16384

namespace Cert.Proof

open Idealize.ShloMosaic Idealize.SL.Sem

theorem range_bits (m : (ℓ : Loc Kernel.nD Kernel.τ Kernel.sig) → Buf (Elt Bits) ℓ) (h : Pre_Kernel m) : Kernel.Hand.InRange (Kernel.Hand.segs m 0) :=
  Read.in_range _ _ _ _ (h 0)

theorem range_ideal (m : (ℓ : Loc KernelIdeal.nD KernelIdeal.τ KernelIdeal.sig) → Buf (Elt Ideal) ℓ) (h : Pre_KernelIdeal m) :
    KernelIdeal.Hand.InRange (KernelIdeal.Hand.segs m 0) :=
  Read.in_range _ _ _ _ (h 0)

theorem range_sorted (m : (ℓ : Loc KernelIdeal.nD KernelIdeal.τ KernelIdeal.sig) → Buf (Elt Ideal) ℓ) (h : Pre_KernelIdeal_ids_sorted m) :
    KernelIdeal.Hand.InRange (KernelIdeal.Hand.segs m 0) :=
  (Read.sorted _ _ _ _ (h 0)).1

theorem frame_bits : quiescent_Kernel := fun m g h =>
  (θ_run _ _ _).mono (fun _ hr => ⟨fun c => (hr.1 c).2, hr.2⟩) (Kernel.Hand.run_launch m (range_bits m h) g)

theorem frame_ideal : quiescent_KernelIdeal := fun m g h =>
  (θ_run _ _ _).mono (fun _ hr => ⟨fun c => (hr.1 c).2, hr.2⟩) (KernelIdeal.Hand.run_launch m (range_ideal m h) g)

theorem frame_sorted : quiescent_KernelIdeal_pre_ids_sorted := fun m g h =>
  (θ_run _ _ _).mono (fun _ hr => ⟨fun c => (hr.1 c).2, hr.2⟩) (KernelIdeal.Hand.run_launch m (range_sorted m h) g)

theorem frame_reference : quiescent_ReferenceIdeal := fun m g _ =>
  (θ_run _ _ _).mono (fun r hr => ⟨fun c => (hr c).2, sem_eq_zero_of_no_sems rfl r.2⟩) (ReferenceIdeal.Value.run m g)

theorem frame_reference_sorted : quiescent_ReferenceIdeal_pre_ids_sorted := fun m g _ => frame_reference m g trivial

end Cert.Proof
-- ==== Proof.Reference.lean ====
module

public import proofs.«01_k».proof.Proof.Gen.ReferenceIdeal
public import proofs.«01_k».proof.Proof.Gen.ReferenceIdeal.Run
public import Idealize.ShloMosaic.Lib.Routing.Ops
public import Idealize.ShloMosaic.Lib.ReduceAll
public import Idealize.ShloMosaic.Lib.ValueIdx

/-! The reference's result, read at an entry: the data there times the scale of the row's segment. -/

@[expose] public section

set_option maxRecDepth 16384

noncomputable section

namespace Cert.ReferenceIdeal.Hand

open Cert.ReferenceIdeal Cert.ReferenceIdeal.Gen
open Idealize.ShloMosaic Idealize.ShloMosaic.TcCoe

variable (b : IVec S1000000 32) (r : FVec Ideal S16x1 .f32)

/-- The row number looked up, a negative one counted from the end. -/
def wanted : IVec S1000000 32 :=
  select (cmpi .slt b (broadcastInDim S1000000 ![] bcast_S_S1000000 (constantI S_ 32 0#32))) (addi b (broadcastInDim S1000000 ![] bcast_S_S1000000 (constantI S_ 32 16#32))) b

/-- The same as a column. -/
def column : IVec S1000000x1 32 := broadcastInDim S1000000x1 ![0] bcast_S1000000_S1000000x1_0 (wanted b)

/-- Whether each lies inside the table. -/
def inside : IVec S1000000x1 1 :=
  andi (cmpi .sge (column b) (broadcastInDim S1000000x1 ![] bcast_S_S1000000x1 (constantI S_ 32 0#32)))
    (cmpi .sle (column b) (broadcastInDim S1000000x1 ![0, 1] bcast_S1x1_S1000000x1_0_1 (broadcastInDim S1x1 ![1] bcast_S1_S1x1_1 (constantI S1 32 15#32))))

/-- The scale of every row. -/
def looked : FVec Ideal S1000000x1 .f32 :=
  select (broadcastInDim S1000000x1 ![0] bcast_S1000000_S1000000x1_0 (Host.reduce IntOp.andi (inside b) (constantI S_ 1 1#1) reducesTo_S1000000x1_S1000000_d1 h_S_))
    (Host.gather gather_S16x1_S1000000x1_S1000000x1_1_0_n_n_0_1_11 r (column b))
    (broadcastInDim S1000000x1 ![] bcast_S_S1000000x1 (constant S_ .f32 0x7FC00000#32))

variable (hb : ∀ y, (b y).toNat < 16)

include hb in
theorem wanted_at (y : S1000000.Idx) : wanted b y = b y := by
  show Scalar.select (BitVec.ofBool (BitVec.slt (b y) 0#32)) (b y + 16#32) (b y) = b y
  have hv := hb y
  have h : BitVec.slt (b y) 0#32 = false := by
    rw [BitVec.slt, decide_eq_false_iff_not, BitVec.toInt_eq_toNat_cond, if_pos (by omega)]
    show ¬ ((b y).toNat : Int) < 0
    omega
  rw [h]
  rfl

include hb in
theorem column_at (y : S1000000x1.Idx) : column b y = b (ValueIdx.ix1 (y 0)) := by
  refine Eq.trans ?_ (wanted_at b hb (ValueIdx.ix1 (y 0)))
  refine congrArg (wanted b) (funext fun (a : Fin 1) => ?_)
  obtain rfl : a = 0 := Subsingleton.elim _ _
  rfl

include hb in
theorem inside_at (y : S1000000x1.Idx) : inside b y = 1#1 := by
  have hv := hb (ValueIdx.ix1 (y 0))
  show IntOp.andi (BitVec.ofBool (BitVec.sle 0#32 (column b y))) (BitVec.ofBool (BitVec.sle (column b y) 15#32)) = 1#1
  rw [column_at b hb]
  generalize b (ValueIdx.ix1 (y 0)) = v at hv
  have h1 : BitVec.sle 0#32 v = true := by
    rw [BitVec.sle, decide_eq_true_eq, BitVec.toInt_eq_toNat_cond (x := v), if_pos (by omega)]
    show (0 : Int) ≤ (v.toNat : Int)
    omega
  have h2 : BitVec.sle v 15#32 = true := by
    rw [BitVec.sle, decide_eq_true_eq, BitVec.toInt_eq_toNat_cond (x := v), if_pos (by omega)]
    show (v.toNat : Int) ≤ 15
    omega
  rw [h1, h2]
  rfl

include hb in
theorem looked_at (n : Fin 1000000) :
    looked b r (ValueIdx.ix2 n 0) = r (ValueIdx.ix2 ⟨(b (ValueIdx.ix1 n)).toNat % 16, Nat.mod_lt _ (by decide)⟩ 0) := by
  have hv := hb (ValueIdx.ix1 n)
  have hm : Host.reduce IntOp.andi (inside b) (constantI S_ 1 1#1) reducesTo_S1000000x1_S1000000_d1 h_S_ = fun _ => 1#1 :=
    funext fun j => Host.reduce_andi_one _ _ _ _ j rfl (inside_at b hb)
  unfold looked
  rw [hm]
  show Host.gather gather_S16x1_S1000000x1_S1000000x1_1_0_n_n_0_1_11 r (column b) (ValueIdx.ix2 n 0) = _
  refine Routing.gather_row gather_S16x1_S1000000x1_S1000000x1_1_0_n_n_0_1_11 rfl rfl rfl rfl rfl r (column b) n 0 ⟨(b (ValueIdx.ix1 n)).toNat % 16, Nat.mod_lt _ (by decide)⟩ ?_ (by decide)
  refine (column_at b hb _).trans ?_
  show b (ValueIdx.ix1 n) = BitVec.ofNat 32 ((b (ValueIdx.ix1 n)).toNat % 16)
  rw [Nat.mod_eq_of_lt hv, BitVec.ofNat_toNat, BitVec.setWidth_eq]

include hb in
/-- The result at an entry. -/
theorem result_at (x : FVec Ideal S1000000x64 .f32) (y : S1000000x64.Idx) :
    (mulf x (broadcastInDim S1000000x64 ![0, 1] bcast_S1000000x1_S1000000x64_0_1 (looked b r)) y : EReal)
      = (x y : EReal) * r (ValueIdx.ix2 ⟨(b (ValueIdx.ix1 (y 0))).toNat % 16, Nat.mod_lt _ (by decide)⟩ 0) := by
  refine congrArg (fun z : EReal => (x y : EReal) * z) (Eq.trans ?_ (looked_at b r hb (y 0)))
  refine congrArg (looked b r) (funext fun (a : Fin 2) => ?_)
  match a with
  | ⟨0, _⟩ => rfl
  | ⟨1, _⟩ => rfl

end Cert.ReferenceIdeal.Hand
-- ==== Proof.Ideal.First.lean ====
module

public import proofs.«01_k».proof.Proof.Ideal.Tables
public import Idealize.ShloMosaic.Lib.Pipeline.ValueKit.Geometry

/-! What the first call leaves: every row of the data times the scale of the segment at the first row of its block of a
    thousand. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window)

variable {F : FTy → Type} [FloatOps F]

/-- The data and the scales at launch. -/
abbrev rows (m : (ℓ : Loc nD τ sig) → Buf (Elt F) ℓ) (c : Dev nD) : S1000000x64.Idx → F .f32 := m ((c : Thread nD τ).loc main_arg0)
abbrev scales (m : (ℓ : Loc nD τ sig) → Buf (Elt F) ℓ) (c : Dev nD) : S16x1.Idx → F .f32 := m ((c : Thread nD τ).loc main_arg2)

/-- The scale of segment `q`. -/
def scaleOf (r : S16x1.Idx → F .f32) (q : Nat) : F .f32 := r (ValueIdx.ix2 ⟨q % 16, Nat.mod_lt _ (by decide)⟩ 0)

/-- Each row times the scale of its block's first segment. -/
def coarse (x : S1000000x64.Idx → F .f32) (b : S1000000.Idx → BitVec 32) (r : S16x1.Idx → F .f32) : S1000000x64.Idx → F .f32 :=
  fun y => FloatOps.mulf (x y) (scaleOf r (bound b ((y 0).val / 1000)).toNat)

theorem coord0_val (u : Fin grid0.N) : (grid0.coords u 0).val = u.val := by
  revert u; decide

theorem map0_1 (i : grid0.Coords) : cc0_transform_1 i = ![(i 0).val, 0] := by
  have h : (i 0).val < 50 := (i 0).isLt
  show ![(BitVec.ofNat 32 (i 0).val).toNat, 0] = _
  rw [BitVec.toNat_ofNat, Nat.mod_eq_of_lt (by omega)]

theorem map0_2 (i : grid0.Coords) : cc0_transform_2 i = ![(i 0).val, 0] := map0_1 i

section
variable (A0 : (pcfg0 (F := F)).Adm)

theorem index0_2 (t : Fin (cfg0 A0).N) : ((cfg0 A0).win 2).index t = ![t.val, 0] := by
  refine (map0_2 (grid0.coords t)).trans ?_
  rw [coord0_val]

/-- Where point `t`'s block of the result sits. -/
def place0 (t : Fin (cfg0 A0).N) (y : S20000x64.Idx) : S1000000x64.Idx := (((cfg0 A0).win 2).blk t).view.emb y

theorem place0_row (t : Fin (cfg0 A0).N) (y : S20000x64.Idx) : (place0 A0 t y 0).val = 20000 * t.val + (y 0).val := by
  have e : (place0 A0 t y 0).val = ((cfg0 A0).win 2).index t (0 : Fin 2) * 20000 + 1 * (y 0).val := rfl
  rw [e, index0_2]
  show t.val * 20000 + 1 * (y 0).val = _
  omega

theorem flush0_2 (t : Fin (cfg0 A0).N) : ((cfg0 A0).win 2).flush t = true := by
  have ht : t.val < 50 := t.isLt
  by_cases h : t.val + 1 = 50
  · have e : ((cfg0 A0).win 2).flush t = (true && (decide (t.val + 1 = 50) || decide (∃ h : t.val + 1 < 50, ((cfg0 A0).win 2).index ⟨t.val + 1, h⟩ ≠ ((cfg0 A0).win 2).index t))) := rfl
    rw [e, decide_eq_true h]; rfl
  · have e : ((cfg0 A0).win 2).flush t = (true && (decide (t.val + 1 = 50) || decide (∃ h : t.val + 1 < 50, ((cfg0 A0).win 2).index ⟨t.val + 1, h⟩ ≠ ((cfg0 A0).win 2).index t))) := rfl
    rw [e, decide_eq_true (p := ∃ h : t.val + 1 < 50, ((cfg0 A0).win 2).index ⟨t.val + 1, h⟩ ≠ ((cfg0 A0).win 2).index t) ⟨by omega, fun e => by
      rw [index0_2, index0_2] at e
      have e0 : t.val + 1 = t.val := congrFun e 0
      omega⟩, Bool.or_true]; rfl

theorem cover0_2 (i : S1000000x64.Idx) : ∃ t : Fin (cfg0 A0).N, ((cfg0 A0).win 2).flush t = true ∧ i ∈ (((cfg0 A0).win 2).blk t).view.set := by
  have hi : (i 0).val < 1000000 := (i 0).isLt
  have h1 : (i 1).val < 64 := (i 1).isLt
  refine ⟨⟨(i 0).val / 20000, by show _ < 50; omega⟩, flush0_2 A0 _, (((cfg0 A0).win 2).emb_mem_blk_iff _ i rfl).2 fun (a : Fin 2) => ?_⟩
  rw [index0_2]
  match a with
  | ⟨0, _⟩ =>
    show (i 0).val / 20000 * 20000 ≤ (i 0).val ∧ (i 0).val < (i 0).val / 20000 * 20000 + 20000
    omega
  | ⟨1, _⟩ =>
    show 0 * 64 ≤ (i 1).val ∧ (i 1).val < 0 * 64 + 64
    omega

end

variable (m : (ℓ : Loc nD τ sig) → Buf (Elt F) ℓ)

theorem v3_eq (c : Dev nD) : (V1 m c main_v3 : S16.Idx → F .f32) = shapeCast S16 (scales m c) shapeCasts_S16x1_S16 := by
  show StableHlo.after hostOps0 (V0 m c) (Proc.devRef .tc main_v3) = _
  simp only [hostOps0]
  after_results <;> rfl

theorem v3_at (c : Dev nD) (n : Nat) : (V1 m c main_v3 : S16.Idx → F .f32) (rIdx n) = scaleOf (scales m c) n := by
  rw [v3_eq]
  exact shapeCast_apply (s := S16x1) (t := S16) _ _ (rIdx n) (ValueIdx.ix2 ⟨n % 16, Nat.mod_lt _ (by decide)⟩ 0) (by
    rw [Shape.rowMajor_val_one, Shape.rowMajor_val_two]; show n % 16 * 1 + 0 = n % 16; omega)

theorem blk0_0_at (c : Dev nD) (t : Fin (cfg0 (T0 m)).N) (y : S16.Idx) : (blk0 (T0 m) (V1 m) c 0 t : S16.Idx → F .f32) y = (V1 m c main_v3 : S16.Idx → F .f32) y := by
  refine congrArg (V1 m c main_v3 : S16.Idx → F .f32) (funext fun (a : Fin 1) => ?_)
  obtain rfl : a = 0 := Subsingleton.elim _ _
  refine Fin.ext ?_
  show 0 * 16 + 1 * (y 0).val = (y 0).val
  omega

/-- What the first call leaves. -/
theorem res0_eq (c : Dev nD) : (res0 (T0 m) m c : S1000000x64.Idx → F .f32) = coarse (rows m c) (segs m c) (scales m c) := by
  obtain rfl : c = 0 := Subsingleton.elim _ _
  refine (dat0 (T0 m) (V1 m) 0).arrAt_eq_of_cover 2 (coarse (rows m 0) (segs m 0) (scales m 0)) (fun t _ => funext fun (y : S20000x64.Idx) => ?_) (cover0_2 (T0 m))
  have ht : t.val < 50 := t.isLt
  have hy : (y 0).val < 20000 := (y 0).isLt
  show FloatOps.mulf ((blk0 (T0 m) (V1 m) 0 1 t : S20000x64.Idx → F .f32) y) ((blk0 (T0 m) (V1 m) 0 0 t : S16.Idx → F .f32) (rIdx (((T0 m).1 0 : S1001.Idx → BitVec 32) (tIdx (20 * (grid0.coords t 0).val + (y 0).val / 1000))).toNat))
    = FloatOps.mulf (rows m 0 (place0 (T0 m) t y)) (scaleOf (scales m 0) (bound (segs m 0) ((place0 (T0 m) t y 0).val / 1000)).toNat)
  have e1 : (blk0 (T0 m) (V1 m) 0 1 t : S20000x64.Idx → F .f32) y = rows m 0 (place0 (T0 m) t y) := by
    refine (show (blk0 (T0 m) (V1 m) 0 1 t : S20000x64.Idx → F .f32) y = (V1 m 0 main_arg0 : S1000000x64.Idx → F .f32) (place0 (T0 m) t y) from rfl).trans ?_
    rw [V1_of m 0 main_arg0 (by decide)]
  have e2 : ((T0 m).1 0 : S1001.Idx → BitVec 32) (tIdx (20 * (grid0.coords t 0).val + (y 0).val / 1000)) = bound (segs m 0) ((20000 * t.val + (y 0).val) / 1000) := by
    refine (tab0_at m 0 _).trans (congrArg (bound (segs m 0)) ?_)
    show (20 * (grid0.coords t 0).val + (y 0).val / 1000) % 1001 = _
    rw [coord0_val]
    omega
  rw [e1, blk0_0_at, v3_at, e2, place0_row]

end Cert.KernelIdeal.Hand
-- ==== Proof.Ideal.Fixup.lean ====
module

public import proofs.«01_k».proof.Proof.Ideal.Body1
public import Idealize.ShloMosaic.Lib.Routing.Ops
public import Idealize.ShloMosaic.Lib.ValueIdx
public import Idealize.ShloMosaic.PureOps.Ideal
public import Idealize.ShloMosaic.PureOps.Ideal.Laws

/-! What the second call's body leaves in a block of a thousand rows whose segment numbers are in order: each row of the
    data times the scale of its own segment. The body adds, at every boundary that lies at or before the row, the
    difference of the two scales that meet there; the sum telescopes. -/

@[expose] public section

set_option maxRecDepth 16384

noncomputable section

namespace Cert.KernelIdeal.Hand

open Cert.KernelIdeal Cert.KernelIdeal.Gen
open Idealize.ShloMosaic Idealize.ShloMosaic.TcCoe

/-! ## Where each segment begins -/

/-- Among a thousand numbers in order, at most `j` lie below `q` exactly when the one at `j` does not. -/
theorem count_le_iff {s : Nat → Nat} (hs : ∀ i j, i ≤ j → j < 1000 → s i ≤ s j) {j q : Nat} (hj : j < 1000) :
    Nat.count (fun k => s k < q) 1000 ≤ j ↔ q ≤ s j := by
  constructor
  · intro h
    by_contra hq
    have h1 : Nat.count (fun k => s k < q) (j + 1) = j + 1 :=
      Nat.count_iff_forall.2 fun k hk => lt_of_le_of_lt (hs k j (by omega) hj) (by omega)
    have h2 := Nat.count_monotone (fun k => s k < q) (show j + 1 ≤ 1000 by omega)
    omega
  · intro h
    obtain ⟨d, hd⟩ : ∃ d, 1000 = j + d := ⟨1000 - j, by omega⟩
    rw [hd, Nat.count_add]
    have h0 : Nat.count (fun k => s (j + k) < q) d = 0 := by
      rw [Nat.count_iff_forall_not]
      intro k hk
      have := hs j (j + k) (by omega) (by omega)
      omega
    rw [h0]
    exact Nat.count_le _

/-- Which rows of the block lie below a segment. -/
def belowMask (x0 : S1x1x1000.Idx → BitVec 32) : IVec S16x1000 1 :=
  cmpi .slt (broadcastTo S16x1000 (shapeCast S1x1000 (shapeCast S1000 x0 shapeCasts_S1x1x1000_S1000) shapeCasts_S1000_S1x1000) broadcasts_S1x1000_S16x1000)
    (iota .tc S16x1000 32 [0] iota_S16x1000_d0_w32)

/-- The first row of each segment in the block, as the body counts it. -/
theorem first_at (x0 : S1x1x1000.Idx → BitVec 32) (hx : ∀ y, (x0 y).toNat < 16) (q : Fin 16) :
    k1_pay2 (F := Ideal) x0 (ValueIdx.ix2 q 0)
      = BitVec.ofNat 32 (Nat.count (fun k => (x0 (ValueIdx.ix3 0 0 ⟨k % 1000, Nat.mod_lt _ (by decide)⟩)).toNat < q.val) 1000) := by
  have hR : S16x1000.ReducesTo [1] S16 := by decide
  have hu : 0 < (⟨0, ![]⟩ : Shape).numel := by decide
  have hc : k1_pay2 (F := Ideal) x0 (ValueIdx.ix2 q 0) = multiReductionI .add [1] S16 (extui 32 (belowMask x0) natLt_1_32) 0#32 reduces_S16x1000_S16 rfl (ValueIdx.ix1 q) :=
    shapeCast_apply (s := S16) (t := S16x1) (multiReductionI .add [1] S16 (extui 32 (belowMask x0) natLt_1_32) 0#32 reduces_S16x1000_S16 rfl) shapeCasts_S16_S16x1 (ValueIdx.ix2 q 0) (ValueIdx.ix1 q) (by
      rw [Shape.rowMajor_val_one, Shape.rowMajor_val_two]; show q.val = q.val * 1 + 0; omega)
  rw [hc]
  refine (multiReductionI_eq_fold .add _ 0#32 reduces_S16x1000_S16 rfl (ValueIdx.ix1 q)).trans ?_
  refine (Eq.trans ?_ (Host.reduce_eq_fold (s := S16x1000) (t := S16) IntOp.addi (extui 32 (belowMask x0) natLt_1_32) (constantI ⟨0, ![]⟩ 32 0#32) hR hu (ValueIdx.ix1 q)).symm).trans ?_
  · rfl
  refine Routing.reduce_count (n := 16) (m := 1000) (by decide) _ natLt_1_32 hR hu q _ fun k => ?_
  have e : broadcastTo S16x1000 (shapeCast S1x1000 (shapeCast S1000 x0 shapeCasts_S1x1x1000_S1000) shapeCasts_S1000_S1x1000) broadcasts_S1x1000_S16x1000 (ValueIdx.ix2 q k)
      = x0 (ValueIdx.ix3 0 0 k) := by
    have e1 : broadcastTo S16x1000 (shapeCast S1x1000 (shapeCast S1000 x0 shapeCasts_S1x1x1000_S1000) shapeCasts_S1000_S1x1000) broadcasts_S1x1000_S16x1000 (ValueIdx.ix2 q k)
        = shapeCast S1x1000 (shapeCast S1000 x0 shapeCasts_S1x1x1000_S1000) shapeCasts_S1000_S1x1000 (ValueIdx.ix2 0 k) := by
      refine congrArg (shapeCast S1x1000 (shapeCast S1000 x0 shapeCasts_S1x1x1000_S1000) shapeCasts_S1000_S1x1000) (funext fun (a : Fin 2) => ?_)
      match a with
      | ⟨0, _⟩ => rfl
      | ⟨1, _⟩ => rfl
    rw [e1, shapeCast_apply (s := S1000) (t := S1x1000) _ _ (ValueIdx.ix2 0 k) (ValueIdx.ix1 k) (by
        rw [Shape.rowMajor_val_one, Shape.rowMajor_val_two]; show k.val = 0 * 1000 + k.val; omega),
      shapeCast_apply (s := S1x1x1000) (t := S1000) _ _ (ValueIdx.ix1 k) (ValueIdx.ix3 0 0 k) (by
        rw [Shape.rowMajor_val_one, Shape.rowMajor_val_three]; show (0 * 1 + 0) * 1000 + k.val = k.val; omega)]
  show BitVec.ofBool (BitVec.slt (broadcastTo S16x1000 (shapeCast S1x1000 (shapeCast S1000 x0 shapeCasts_S1x1x1000_S1000) shapeCasts_S1000_S1x1000) broadcasts_S1x1000_S16x1000 (ValueIdx.ix2 q k))
    (BitVec.ofNat 32 (0 * 16 + q.val))) = 1#1 ↔ _
  rw [e]
  have hk : (⟨k.val % 1000, Nat.mod_lt _ (by decide)⟩ : Fin 1000) = k := Fin.ext (Nat.mod_eq_of_lt k.isLt)
  rw [hk]
  have h3 : ∀ p : Bool, BitVec.ofBool p = 1#1 ↔ p = true := by decide
  have hv := hx (ValueIdx.ix3 0 0 k)
  generalize x0 (ValueIdx.ix3 0 0 k) = v at hv
  have hq := q.isLt
  rw [h3, BitVec.slt, decide_eq_true_eq, BitVec.toInt_eq_toNat_cond, BitVec.toInt_eq_toNat_cond, BitVec.toNat_ofNat, if_pos (by omega), if_pos (by omega)]
  omega

/-! ## The sum over the boundaries -/

/-- One boundary added: at the rows from the segment's first on, the difference of the scales. -/
def step (q : Nat) (h : S16x1.Slices ![q, 0] S1x1) (acc : FVec Ideal S1000x64 .f32) (lb : IVec S16x1 32) (d : FVec Ideal S16x1 .f32) : FVec Ideal S1000x64 .f32 :=
  addf acc (select (cmpi .sge rowNo (broadcastTo S1000x64 (extractStridedSlice S1x1 ![q, 0] lb h) broadcasts_S1x1_S1000x64))
    (broadcastTo S1000x64 (shapeCast S1x1 (extractStridedSlice S1x1 ![q, 0] d h) shapeCasts_S1x1_S1x1) broadcasts_S1x1_S1000x64)
    (broadcast S1000x64 (zro (F := Ideal))))

theorem out1_steps (x0 : Vec Ideal S1x1x1000 .i32) (x1 : Vec Ideal S16x1 .f32) (x2 : Vec Ideal S1000x64 .f32) :
    out1 x0 x1 x2 = mulf x2
      (step 15 slices_S16x1_o15_0_S1x1 (step 14 slices_S16x1_o14_0_S1x1 (step 13 slices_S16x1_o13_0_S1x1 (step 12 slices_S16x1_o12_0_S1x1
      (step 11 slices_S16x1_o11_0_S1x1 (step 10 slices_S16x1_o10_0_S1x1 (step 9 slices_S16x1_o9_0_S1x1 (step 8 slices_S16x1_o8_0_S1x1
      (step 7 slices_S16x1_o7_0_S1x1 (step 6 slices_S16x1_o6_0_S1x1 (step 5 slices_S16x1_o5_0_S1x1 (step 4 slices_S16x1_o4_0_S1x1
      (step 3 slices_S16x1_o3_0_S1x1 (step 2 slices_S16x1_o2_0_S1x1 (step 1 slices_S16x1_o1_0_S1x1 (step 0 slices_S16x1_o0_0_S1x1
        (broadcast S1000x64 (zro (F := Ideal))) (k1_pay2 (F := Ideal) x0) (k1_pay3 x1)) (k1_pay2 (F := Ideal) x0) (k1_pay3 x1)) (k1_pay2 (F := Ideal) x0) (k1_pay3 x1)) (k1_pay2 (F := Ideal) x0) (k1_pay3 x1))
        (k1_pay2 (F := Ideal) x0) (k1_pay3 x1)) (k1_pay2 (F := Ideal) x0) (k1_pay3 x1)) (k1_pay2 (F := Ideal) x0) (k1_pay3 x1)) (k1_pay2 (F := Ideal) x0) (k1_pay3 x1))
        (k1_pay2 (F := Ideal) x0) (k1_pay3 x1)) (k1_pay2 (F := Ideal) x0) (k1_pay3 x1)) (k1_pay2 (F := Ideal) x0) (k1_pay3 x1)) (k1_pay2 (F := Ideal) x0) (k1_pay3 x1))
        (k1_pay2 (F := Ideal) x0) (k1_pay3 x1)) (k1_pay2 (F := Ideal) x0) (k1_pay3 x1)) (k1_pay2 (F := Ideal) x0) (k1_pay3 x1)) (k1_pay2 (F := Ideal) x0) (k1_pay3 x1)) := rfl

/-- One boundary added, at one entry. -/
theorem step_at (q : Fin 16) (h : S16x1.Slices ![q.val, 0] S1x1) (acc : FVec Ideal S1000x64 .f32) (lb : IVec S16x1 32) (d : FVec Ideal S16x1 .f32) (n : Nat) (hn : n ≤ 1000)
    (hlb : lb (ValueIdx.ix2 q 0) = BitVec.ofNat 32 n) (y : S1000x64.Idx) :
    step q.val h acc lb d y = (if n ≤ (y 0).val then (acc y : EReal) + d (ValueIdx.ix2 q 0) else (acc y : EReal) + (0 : EReal)) := by
  have hi : ∀ {α : Type} (x : S16x1.Idx → α), broadcastTo S1000x64 (extractStridedSlice S1x1 ![q.val, 0] x h) broadcasts_S1x1_S1000x64 y = x (ValueIdx.ix2 q 0) := by
    intro α x
    refine congrArg x (funext fun (a : Fin 2) => ?_)
    match a with
    | ⟨0, _⟩ => exact Fin.ext (Nat.add_zero q.val)
    | ⟨1, _⟩ => exact Fin.ext rfl
  have hy : (y 0).val < 1000 := (y 0).isLt
  have hz : (zro (F := Ideal) : EReal) = 0 := Ideal.ofBits_zero_f32
  have hg : BitVec.ofBool ((BitVec.ofNat 32 n).sle (BitVec.ofNat 32 (0 * 1000 + (y 0).val))) = (1 : BitVec 1) ↔ n ≤ (y 0).val := by
    have h3 : ∀ p : Bool, BitVec.ofBool p = (1 : BitVec 1) ↔ p = true := by decide
    rw [h3, BitVec.sle, decide_eq_true_eq, BitVec.toInt_eq_toNat_cond, BitVec.toInt_eq_toNat_cond, BitVec.toNat_ofNat, BitVec.toNat_ofNat, if_pos (by omega), if_pos (by omega)]
    omega
  have hs : step q.val h acc lb d y = (acc y : EReal) + Scalar.select (BitVec.ofBool ((broadcastTo S1000x64 (extractStridedSlice S1x1 ![q.val, 0] lb h) broadcasts_S1x1_S1000x64 y).sle (BitVec.ofNat 32 (0 * 1000 + (y 0).val))))
      (broadcastTo S1000x64 (shapeCast S1x1 (extractStridedSlice S1x1 ![q.val, 0] d h) shapeCasts_S1x1_S1x1) broadcasts_S1x1_S1000x64 y) (zro (F := Ideal) : EReal) := rfl
  rw [hs, hi lb, hlb, shapeCast_self, hi d, hz]
  unfold Scalar.select
  by_cases hc : n ≤ (y 0).val
  · rw [if_pos hc, if_pos (hg.2 hc)]
  · rw [if_neg hc, if_neg fun h => hc (hg.1 h)]

/-- The first difference is the first scale. -/
theorem diff_zero (x1 : S16x1.Idx → EReal) : (k1_pay3 (F := Ideal) x1 (ValueIdx.ix2 0 0) : EReal) = x1 (ValueIdx.ix2 0 0) - 0 := by
  have hz : (zro (F := Ideal) : EReal) = 0 := Ideal.ofBits_zero_f32
  have e := concatenate_pair_apply_left (t := S16x1) (s₁ := S1x1) (s₂ := S15x1) 0 (broadcast S1x1 (zro (F := Ideal)))
    (extractStridedSlice S15x1 ![0, 0] x1 slices_S16x1_o0_0_S15x1) concatenates_S1x1_S15x1_S16x1_d0 (ValueIdx.ix2 0 0) rfl (ValueIdx.ix2 0 0) (fun (a : Fin 2) => match a with | ⟨0, _⟩ => rfl | ⟨1, _⟩ => rfl)
  show (x1 (ValueIdx.ix2 0 0) : EReal) - concatenate S16x1 0 [⟨S1x1, broadcast S1x1 (zro (F := Ideal))⟩, ⟨S15x1, extractStridedSlice S15x1 ![0, 0] x1 slices_S16x1_o0_0_S15x1⟩] concatenates_S1x1_S15x1_S16x1_d0 (ValueIdx.ix2 0 0) = _
  rw [e, ← hz]
  rfl

/-- Every other is the difference of two scales that follow one another. -/
theorem diff_succ (x1 : S16x1.Idx → EReal) (q : Nat) (hq : q + 1 < 16) :
    (k1_pay3 (F := Ideal) x1 (ValueIdx.ix2 ⟨q + 1, hq⟩ 0) : EReal) = x1 (ValueIdx.ix2 ⟨q + 1, hq⟩ 0) - x1 (ValueIdx.ix2 ⟨q, by omega⟩ 0) := by
  have e := concatenate_pair_apply_right (t := S16x1) (s₁ := S1x1) (s₂ := S15x1) 0 (broadcast S1x1 (zro (F := Ideal)))
    (extractStridedSlice S15x1 ![0, 0] x1 slices_S16x1_o0_0_S15x1) concatenates_S1x1_S15x1_S16x1_d0 (ValueIdx.ix2 ⟨q + 1, hq⟩ 0) rfl rfl (ValueIdx.ix2 ⟨q, by omega⟩ 0)
    (fun (a : Fin 2) ha => match a, ha with | ⟨0, _⟩, ha => absurd rfl ha | ⟨1, _⟩, _ => rfl) rfl
  show (x1 (ValueIdx.ix2 ⟨q + 1, hq⟩ 0) : EReal) - concatenate S16x1 0 [⟨S1x1, broadcast S1x1 (zro (F := Ideal))⟩, ⟨S15x1, extractStridedSlice S15x1 ![0, 0] x1 slices_S16x1_o0_0_S15x1⟩] concatenates_S1x1_S15x1_S16x1_d0 (ValueIdx.ix2 ⟨q + 1, hq⟩ 0) = _
  rw [e]
  refine congrArg (fun z => (x1 (ValueIdx.ix2 ⟨q + 1, hq⟩ 0) : EReal) - x1 z) (funext fun (a : Fin 2) => ?_)
  match a with
  | ⟨0, _⟩ => exact Fin.ext (Nat.zero_add q)
  | ⟨1, _⟩ => exact Fin.ext rfl

/-- What the sum holds after boundary `q`: the scale of segment `q`, or of the row's own segment where that comes first. -/
theorem step_zero (x0 : S1x1x1000.Idx → BitVec 32) (x1 : S16x1.Idx → EReal) (v : Nat → ℝ) (hx : ∀ y, (x0 y).toNat < 16)
    (hv : ∀ q : Fin 16, x1 (ValueIdx.ix2 q 0) = ((v q.val : ℝ) : EReal)) (y : S1000x64.Idx) (h : S16x1.Slices ![0, 0] S1x1) :
    (step 0 h (broadcast S1000x64 (zro (F := Ideal))) (k1_pay2 (F := Ideal) x0) (k1_pay3 x1) y : EReal) = ((v 0 : ℝ) : EReal) := by
  have hz : (zro (F := Ideal) : EReal) = 0 := Ideal.ofBits_zero_f32
  have hc : Nat.count (fun k => (x0 (ValueIdx.ix3 0 0 ⟨k % 1000, Nat.mod_lt _ (by decide)⟩)).toNat < (0 : Fin 16).val) 1000 = 0 :=
    Nat.count_iff_forall_not.2 fun k _ hk => absurd hk (Nat.not_lt_zero _)
  have hf := first_at x0 hx 0
  rw [hc] at hf
  refine (step_at 0 h (broadcast S1000x64 (zro (F := Ideal))) (k1_pay2 (F := Ideal) x0) (k1_pay3 x1) 0 (by omega) hf y).trans ?_
  rw [if_pos (Nat.zero_le _), diff_zero, hv 0]
  show (zro (F := Ideal) : EReal) + (((v 0 : ℝ) : EReal) - 0) = _
  rw [hz, zero_add, sub_zero]

theorem step_succ (x0 : S1x1x1000.Idx → BitVec 32) (x1 : S16x1.Idx → EReal) (v : Nat → ℝ) (s : Nat → Nat) (hx : ∀ y, (x0 y).toNat < 16)
    (hx0 : ∀ k : Fin 1000, (x0 (ValueIdx.ix3 0 0 k)).toNat = s k.val) (hs : ∀ i j, i ≤ j → j < 1000 → s i ≤ s j)
    (hv : ∀ q : Fin 16, x1 (ValueIdx.ix2 q 0) = ((v q.val : ℝ) : EReal)) (y : S1000x64.Idx) (q : Nat) (hq : q + 1 < 16) (h : S16x1.Slices ![q + 1, 0] S1x1)
    (acc : FVec Ideal S1000x64 .f32) (hacc : (acc y : EReal) = ((v (min q (s (y 0).val)) : ℝ) : EReal)) :
    (step (q + 1) h acc (k1_pay2 (F := Ideal) x0) (k1_pay3 x1) y : EReal) = ((v (min (q + 1) (s (y 0).val)) : ℝ) : EReal) := by
  have hy : (y 0).val < 1000 := (y 0).isLt
  have hc : Nat.count (fun k => (x0 (ValueIdx.ix3 0 0 ⟨k % 1000, Nat.mod_lt _ (by decide)⟩)).toNat < q + 1) 1000 = Nat.count (fun k => s (k % 1000) < q + 1) 1000 :=
    congrArg (fun f : Nat → Nat => Nat.count (fun k => f k < q + 1) 1000)
      (funext fun k => hx0 ⟨k % 1000, Nat.mod_lt _ (by decide)⟩ : (fun k => (x0 (ValueIdx.ix3 0 0 ⟨k % 1000, Nat.mod_lt _ (by decide)⟩)).toNat) = fun k => s (k % 1000))
  have hf := first_at x0 hx ⟨q + 1, hq⟩
  rw [hc] at hf
  have hi := count_le_iff (s := fun k => s (k % 1000)) (fun i j hij hj => by
    rw [Nat.mod_eq_of_lt hj, Nat.mod_eq_of_lt (show i < 1000 by omega)]; exact hs i j hij hj) (q := q + 1) hy
  refine (step_at ⟨q + 1, hq⟩ h acc (k1_pay2 (F := Ideal) x0) (k1_pay3 x1) _ (Nat.count_le _) hf y).trans ?_
  rw [Nat.mod_eq_of_lt hy] at hi
  by_cases hb : q + 1 ≤ s (y 0).val
  · rw [if_pos (hi.2 hb), diff_succ, hv, hv, hacc, min_eq_left hb, min_eq_left (by omega), ← EReal.coe_sub, ← EReal.coe_add]
    congr 1
    ring
  · rw [if_neg fun h => hb (hi.1 h), hacc, min_eq_right (by omega), min_eq_right (by omega), add_zero]

/-- A fixed-up block: each row times the scale of its own segment. -/
theorem out1_at (x0 : S1x1x1000.Idx → BitVec 32) (x1 : S16x1.Idx → EReal) (x2 : S1000x64.Idx → EReal) (v : Nat → ℝ) (s : Nat → Nat) (hx : ∀ y, (x0 y).toNat < 16)
    (hx0 : ∀ k : Fin 1000, (x0 (ValueIdx.ix3 0 0 k)).toNat = s k.val) (hs : ∀ i j, i ≤ j → j < 1000 → s i ≤ s j)
    (hv : ∀ q : Fin 16, x1 (ValueIdx.ix2 q 0) = ((v q.val : ℝ) : EReal)) (y : S1000x64.Idx) :
    (out1 (F := Ideal) x0 x1 x2 y : EReal) = x2 y * ((v (s (y 0).val) : ℝ) : EReal) := by
  have hy : (y 0).val < 1000 := (y 0).isLt
  have hb : s (y 0).val ≤ 15 := by
    have := hx (ValueIdx.ix3 0 0 ⟨(y 0).val, hy⟩)
    rw [hx0] at this
    exact Nat.le_of_lt_succ this
  rw [out1_steps]
  refine congrArg (fun z : EReal => (x2 y : EReal) * z) ?_
  have st := step_succ x0 x1 v s hx hx0 hs hv y
  have s0 : (step 0 slices_S16x1_o0_0_S1x1 (broadcast S1000x64 (zro (F := Ideal))) (k1_pay2 (F := Ideal) x0) (k1_pay3 x1) y : EReal) = ((v (min 0 (s (y 0).val)) : ℝ) : EReal) := by
    rw [Nat.zero_min]; exact step_zero x0 x1 v hx hv y slices_S16x1_o0_0_S1x1
  have fin := st 14 (by omega) slices_S16x1_o15_0_S1x1 _ <| st 13 (by omega) slices_S16x1_o14_0_S1x1 _ <| st 12 (by omega) slices_S16x1_o13_0_S1x1 _ <|
    st 11 (by omega) slices_S16x1_o12_0_S1x1 _ <| st 10 (by omega) slices_S16x1_o11_0_S1x1 _ <| st 9 (by omega) slices_S16x1_o10_0_S1x1 _ <|
    st 8 (by omega) slices_S16x1_o9_0_S1x1 _ <| st 7 (by omega) slices_S16x1_o8_0_S1x1 _ <| st 6 (by omega) slices_S16x1_o7_0_S1x1 _ <|
    st 5 (by omega) slices_S16x1_o6_0_S1x1 _ <| st 4 (by omega) slices_S16x1_o5_0_S1x1 _ <| st 3 (by omega) slices_S16x1_o4_0_S1x1 _ <|
    st 2 (by omega) slices_S16x1_o3_0_S1x1 _ <| st 1 (by omega) slices_S16x1_o2_0_S1x1 _ <| st 0 (by omega) slices_S16x1_o1_0_S1x1 _ s0
  rw [min_eq_right hb] at fin
  exact fin

end Cert.KernelIdeal.Hand
-- ==== Proof.Ideal.Second.lean ====
module

public import proofs.«01_k».proof.Proof.Ideal.First
public import proofs.«01_k».proof.Proof.Ideal.Fixup

/-! What the second call leaves where the segment numbers are in order and the scales finite: every row of the data times
    the scale of its own segment. A block that the call visits is computed afresh; a block that it does not visit holds
    one segment only, so the first call's block is right already. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window)

/-! ## Segment numbers in order -/

/-- No row's segment number lies above the next row's. -/
def InOrder (b : S1000000.Idx → BitVec 32) : Prop := ∀ n, n + 1 < 1000000 → (b (rowIx n)).toNat ≤ (b (rowIx (n + 1))).toNat

theorem InOrder.le {b : S1000000.Idx → BitVec 32} (ho : InOrder b) {i j : Nat} (h : i ≤ j) (hj : j < 1000000) :
    (b (rowIx i)).toNat ≤ (b (rowIx j)).toNat := by
  induction j with
  | zero => rw [Nat.le_zero.1 h]
  | succ j ih =>
    rcases Nat.lt_or_ge i (j + 1) with h' | h'
    · exact (ih (Nat.lt_succ_iff.1 h') (by omega)).trans (ho j hj)
    · rw [Nat.le_antisymm h h']

theorem bound_mono {b : S1000000.Idx → BitVec 32} (ho : InOrder b) {i j : Nat} (h : i ≤ j) (hj : j < 1001) :
    (bound b i).toNat ≤ (bound b j).toNat := by
  unfold bound
  refine ho.le ?_ ?_
  · split <;> split <;> omega
  · split <;> omega

/-- The boundary that a block's two ends disagree about falls in that block. -/
theorem cut_eq {b : S1000000.Idx → BitVec 32} (ho : InOrder b) {k t : Nat} (hk : k < 1000) (h1 : (bound b k).toNat ≤ t) (h2 : t < (bound b (k + 1)).toNat) :
    cut b t = k := by
  unfold cut
  obtain ⟨d, hd⟩ : ∃ d, 1001 = k + 1 + d := ⟨1000 - k, by omega⟩
  have e : Nat.count (fun k => (bound b k).toNat ≤ t) 1001 = k + 1 := by
    rw [hd, Nat.count_add, Nat.count_iff_forall.2 fun i hi => (bound_mono ho (show i ≤ k by omega) (by omega)).trans h1]
    have h0 : Nat.count (fun j => (bound b (k + 1 + j)).toNat ≤ t) d = 0 := by
      rw [Nat.count_iff_forall_not]
      intro j hj
      have := bound_mono ho (show k + 1 ≤ k + 1 + j by omega) (by omega)
      omega
    rw [h0]
  rw [e, Nat.add_sub_cancel]

/-- A block that no boundary falls in holds one segment. -/
theorem same_segment {b : S1000000.Idx → BitVec 32} (hb : InRange b) (ho : InOrder b) {n : Nat} (hn : n < 1000000)
    (h : ∀ t : Fin 15, cut b t.val ≠ n / 1000) : (bound b (n / 1000)).toNat = (b (rowIx n)).toNat := by
  have hk : n / 1000 < 1000 := by omega
  have e1 : bound b (n / 1000) = b (rowIx (1000 * (n / 1000))) := by unfold bound; rw [if_pos hk]
  have h1 : (bound b (n / 1000)).toNat ≤ (b (rowIx n)).toNat := by rw [e1]; exact ho.le (by omega) hn
  have h2 : (b (rowIx n)).toNat ≤ (bound b (n / 1000 + 1)).toNat := by
    unfold bound
    split
    · exact ho.le (by omega) (by omega)
    · exact ho.le (by omega) (by omega)
  have h3 := bound_lt hb (n / 1000 + 1)
  by_contra hne
  exact h ⟨(bound b (n / 1000)).toNat, by omega⟩ (cut_eq ho hk (Nat.le_refl _) (by show (bound b (n / 1000)).toNat < _; omega))

/-! ## The call's blocks -/

/-- Each row times the scale of its own segment. -/
def own (x : S1000000x64.Idx → EReal) (b : S1000000.Idx → BitVec 32) (r : S16x1.Idx → EReal) : S1000000x64.Idx → EReal :=
  fun y => x y * scaleOf (F := Ideal) r (b (rowIx (y 0).val)).toNat

variable (m : (ℓ : Loc nD τ sig) → Buf (Elt Ideal) ℓ) (hb : InRange (segs m 0))

theorem index1 (t : Fin (cfg1 (T1 m hb)).N) : cut (segs m 0) t.val ≤ 999 := cut_le hb t.isLt

theorem entry1 (t : Fin (cfg1 (T1 m hb)).N) : entry (T1 m hb).1 (grid1.coords t) = cut (segs m 0) t.val := by
  refine (entry_eq m (T0 m) hb (grid1.coords t)).trans ?_
  rw [coord_val]

theorem index1_0 (t : Fin (cfg1 (T1 m hb)).N) : ((cfg1 (T1 m hb)).win 0).index t = ![cut (segs m 0) t.val, 0, 0] :=
  (t0_eq (T1 m hb).1 (grid1.coords t)).trans (by rw [entry1])
theorem index1_2 (t : Fin (cfg1 (T1 m hb)).N) : ((cfg1 (T1 m hb)).win 2).index t = ![cut (segs m 0) t.val, 0] :=
  (t2_eq (T1 m hb).1 (grid1.coords t)).trans (by rw [entry1])
theorem index1_4 (t : Fin (cfg1 (T1 m hb)).N) : ((cfg1 (T1 m hb)).win 4).index t = ![cut (segs m 0) t.val, 0] :=
  (t4_eq (T1 m hb).1 (grid1.coords t)).trans (by rw [entry1])

/-- Where point `t`'s block of the result sits. -/
def place1 (t : Fin (cfg1 (T1 m hb)).N) (y : S1000x64.Idx) : S1000000x64.Idx := (((cfg1 (T1 m hb)).win 4).blk t).view.emb y

theorem place1_row (t : Fin (cfg1 (T1 m hb)).N) (y : S1000x64.Idx) : (place1 m hb t y 0).val = cut (segs m 0) t.val * 1000 + (y 0).val := by
  have e : (place1 m hb t y 0).val = ((cfg1 (T1 m hb)).win 4).index t (0 : Fin 2) * 1000 + 1 * (y 0).val := rfl
  rw [e, index1_4]
  show cut (segs m 0) t.val * 1000 + 1 * (y 0).val = _
  omega

theorem place1_col (t : Fin (cfg1 (T1 m hb)).N) (y : S1000x64.Idx) : (place1 m hb t y 1).val = (y 1).val := by
  have e : (place1 m hb t y 1).val = ((cfg1 (T1 m hb)).win 4).index t (1 : Fin 2) * 64 + 1 * (y 1).val := rfl
  rw [e, index1_4]
  show 0 * 64 + 1 * (y 1).val = _
  omega

/-! ## The arrays at the call's entry -/

theorem w3_arg0 (c : Dev nD) : W3 (T0 m) m c main_arg0 = m ((c : Thread nD τ).loc main_arg0) :=
  (W3_of _ m c main_arg0 (by decide)).trans <| (W2_of _ m c main_arg0 (by decide)).trans <| V1_of m c main_arg0 (by decide)
theorem w3_arg2 (c : Dev nD) : W3 (T0 m) m c main_arg2 = m ((c : Thread nD τ).loc main_arg2) :=
  (W3_of _ m c main_arg2 (by decide)).trans <| (W2_of _ m c main_arg2 (by decide)).trans <| V1_of m c main_arg2 (by decide)
theorem w2_arg1 (c : Dev nD) : W2 (T0 m) m c main_arg1 = segs m c :=
  (W2_of _ m c main_arg1 (by decide)).trans <| V1_of m c main_arg1 (by decide)

theorem v19_eq (c : Dev nD) : (W3 (T0 m) m c main_v19 : S1000x1x1000.Idx → BitVec 32) = shapeCast S1000x1x1000 (segs m c) shapeCasts_S1000000_S1000x1x1000 := by
  rw [← w2_arg1 m c]
  show StableHlo.after hostOps1 (W2 (T0 m) m c) (Proc.devRef .tc main_v19) = _
  generalize W2 (T0 m) m c = V
  simp only [hostOps1]
  after_results <;> rfl

theorem v20_eq (c : Dev nD) : (W3 (T0 m) m c main_v20 : S1000000x64.Idx → EReal) = (W2 (T0 m) m c main_v4 : S1000000x64.Idx → EReal) := by
  show StableHlo.after hostOps1 (W2 (T0 m) m c) (Proc.devRef .tc main_v20) = _
  generalize W2 (T0 m) m c = V
  simp only [hostOps1]
  after_results <;> rfl

theorem v19_at (c : Dev nD) (p k : Fin 1000) :
    (W3 (T0 m) m c main_v19 : S1000x1x1000.Idx → BitVec 32) (ValueIdx.ix3 p 0 k) = segs m c (rowIx (p.val * 1000 + k.val)) := by
  rw [v19_eq]
  have hp := p.isLt
  have hk := k.isLt
  exact shapeCast_apply (s := S1000000) (t := S1000x1x1000) _ _ (ValueIdx.ix3 p 0 k) (rowIx (p.val * 1000 + k.val)) (by
    rw [Shape.rowMajor_val_one, Shape.rowMajor_val_three]
    show (p.val * 1000 + k.val) % 1000000 = (p.val * 1 + 0) * 1000 + k.val
    omega)

/-! ## The blocks the body reads -/

/-- The segment numbers, -/
def ids1 (t : Fin (cfg1 (T1 m hb)).N) : S1x1x1000.Idx → BitVec 32 := blk1 (T1 m hb) (W3 (T0 m) m) 0 0 t
/-- the scales -/
def scales1 (t : Fin (cfg1 (T1 m hb)).N) : S16x1.Idx → EReal := blk1 (T1 m hb) (W3 (T0 m) m) 0 1 t
/-- and the data. -/
def rows1 (t : Fin (cfg1 (T1 m hb)).N) : S1000x64.Idx → EReal := blk1 (T1 m hb) (W3 (T0 m) m) 0 2 t

theorem blk1_0_at (t : Fin (cfg1 (T1 m hb)).N) (k : Fin 1000) :
    ids1 m hb t (ValueIdx.ix3 0 0 k) = segs m 0 (rowIx (cut (segs m 0) t.val * 1000 + k.val)) := by
  have hc := index1 m hb t
  refine Eq.trans ?_ (v19_at m 0 ⟨cut (segs m 0) t.val, by omega⟩ k)
  refine congrArg (W3 (T0 m) m 0 main_v19 : S1000x1x1000.Idx → BitVec 32) (funext fun (a : Fin 3) => Fin.ext ?_)
  match a with
  | ⟨0, _⟩ =>
    show ((cfg1 (T1 m hb)).win 0).index t (0 : Fin 3) * 1 + 1 * 0 = cut (segs m 0) t.val
    rw [index1_0]
    show cut (segs m 0) t.val * 1 + 1 * 0 = _
    omega
  | ⟨1, _⟩ =>
    show ((cfg1 (T1 m hb)).win 0).index t (1 : Fin 3) * 1 + 1 * 0 = 0
    rw [index1_0]; rfl
  | ⟨2, _⟩ =>
    show ((cfg1 (T1 m hb)).win 0).index t (2 : Fin 3) * 1000 + 1 * k.val = k.val
    rw [index1_0]
    show 0 * 1000 + 1 * k.val = _
    omega

theorem blk1_1_at (t : Fin (cfg1 (T1 m hb)).N) (y : S16x1.Idx) : scales1 m hb t y = scales m 0 y := by
  refine Eq.trans ?_ (congrFun (w3_arg2 m 0) y)
  refine congrArg (W3 (T0 m) m 0 main_arg2 : S16x1.Idx → EReal) (funext fun (a : Fin 2) => Fin.ext ?_)
  match a with
  | ⟨0, _⟩ =>
    show 0 * 16 + 1 * (y 0).val = (y 0).val
    omega
  | ⟨1, _⟩ =>
    show 0 * 1 + 1 * (y 1).val = (y 1).val
    omega

theorem blk1_2_at (t : Fin (cfg1 (T1 m hb)).N) (y : S1000x64.Idx) :
    rows1 m hb t y = rows m 0 (place1 m hb t y) := by
  refine Eq.trans ?_ (congrFun (w3_arg0 m 0) (place1 m hb t y))
  refine congrArg (W3 (T0 m) m 0 main_arg0 : S1000000x64.Idx → EReal) (funext fun (a : Fin 2) => Fin.ext ?_)
  match a with
  | ⟨0, _⟩ =>
    rw [show (place1 m hb t y ⟨0, by decide⟩).val = _ from place1_row m hb t y]
    show ((cfg1 (T1 m hb)).win 2).index t (0 : Fin 2) * 1000 + 1 * (y 0).val = _
    rw [index1_2]
    show cut (segs m 0) t.val * 1000 + 1 * (y 0).val = _
    omega
  | ⟨1, _⟩ =>
    rw [show (place1 m hb t y ⟨1, by decide⟩).val = _ from place1_col m hb t y]
    show ((cfg1 (T1 m hb)).win 2).index t (1 : Fin 2) * 64 + 1 * (y 1).val = _
    rw [index1_2]
    show 0 * 64 + 1 * (y 1).val = _
    omega

/-! ## The blocks it writes -/

theorem flush1_4 (t : Fin (cfg1 (T1 m hb)).N) : ((cfg1 (T1 m hb)).win 4).flush t
    = (true && (decide (t.val + 1 = 15) || decide (∃ h : t.val + 1 < 15, ((cfg1 (T1 m hb)).win 4).index ⟨t.val + 1, h⟩ ≠ ((cfg1 (T1 m hb)).win 4).index t))) := rfl

/-- Every block that the table names is written back at some point. -/
theorem written (t : Fin (cfg1 (T1 m hb)).N) : ∃ u : Fin (cfg1 (T1 m hb)).N, ((cfg1 (T1 m hb)).win 4).flush u = true ∧ cut (segs m 0) u.val = cut (segs m 0) t.val := by
  have key : ∀ d : Nat, ∀ t : Fin (cfg1 (T1 m hb)).N, t.val + d = 14 →
      ∃ u : Fin (cfg1 (T1 m hb)).N, ((cfg1 (T1 m hb)).win 4).flush u = true ∧ cut (segs m 0) u.val = cut (segs m 0) t.val := by
    intro d
    induction d with
    | zero =>
      intro t ht
      exact ⟨t, by rw [flush1_4, decide_eq_true (show t.val + 1 = 15 by omega)]; rfl, rfl⟩
    | succ d ih =>
      intro t ht
      have h : t.val + 1 < 15 := by omega
      by_cases e : cut (segs m 0) (t.val + 1) = cut (segs m 0) t.val
      · obtain ⟨u, h1, h2⟩ := ih ⟨t.val + 1, h⟩ (by show t.val + 1 + d = 14; omega)
        exact ⟨u, h1, h2.trans e⟩
      · refine ⟨t, ?_, rfl⟩
        rw [flush1_4, decide_eq_true (p := ∃ h : t.val + 1 < 15, ((cfg1 (T1 m hb)).win 4).index ⟨t.val + 1, h⟩ ≠ ((cfg1 (T1 m hb)).win 4).index t) ⟨h, fun e' => e (by
          rw [index1_4, index1_4] at e'
          exact congrFun e' 0)⟩, Bool.or_true]
        rfl
  have ht : t.val < 15 := t.isLt
  exact key (14 - t.val) t (by omega)

theorem covered (t : Fin (cfg1 (T1 m hb)).N) (i : S1000000x64.Idx) (h : cut (segs m 0) t.val = (i 0).val / 1000) : i ∈ (((cfg1 (T1 m hb)).win 4).blk t).view.set := by
  have hi : (i 0).val < 1000000 := (i 0).isLt
  have h1 : (i 1).val < 64 := (i 1).isLt
  refine (((cfg1 (T1 m hb)).win 4).emb_mem_blk_iff t i rfl).2 fun (a : Fin 2) => ?_
  rw [index1_4]
  match a with
  | ⟨0, _⟩ =>
    show cut (segs m 0) t.val * 1000 ≤ (i 0).val ∧ (i 0).val < cut (segs m 0) t.val * 1000 + 1000
    omega
  | ⟨1, _⟩ =>
    show 0 * 64 ≤ (i 1).val ∧ (i 1).val < 0 * 64 + 64
    omega

/-- What the second call leaves. -/
theorem res1_eq (ho : InOrder (segs m 0)) (hr : ∀ q, ∃ v : ℝ, scales m 0 q = (v : EReal)) :
    (res1 (T0 m) (T1 m hb) m 0 : S1000000x64.Idx → EReal) = own (rows m 0) (segs m 0) (scales m 0) := by
  have hv : ∀ q, scales m 0 q = (((scales m 0 q : EReal).toReal : ℝ) : EReal) := fun q => by
    obtain ⟨v, hv⟩ := hr q
    rw [hv, EReal.toReal_coe]
  refine funext fun (i : S1000000x64.Idx) => ?_
  have hi : (i 0).val < 1000000 := (i 0).isLt
  refine ((dat1 (T1 m hb) (W3 (T0 m) m) 0).arrAt_eq_piecewise 4 (own (rows m 0) (segs m 0) (scales m 0)) (fun t _ => funext fun (y : S1000x64.Idx) => ?_) i).trans ?_
  · have hy : (y 0).val < 1000 := (y 0).isLt
    have hc := index1 m hb t
    have hx : ∀ z : S1x1x1000.Idx, ∃ k : Fin 1000, z = ValueIdx.ix3 0 0 k := fun z => ⟨z 2, funext fun (a : Fin 3) => by
      match a with
      | ⟨0, _⟩ => exact Fin.ext (Nat.lt_one_iff.1 (z 0).isLt)
      | ⟨1, _⟩ => exact Fin.ext (Nat.lt_one_iff.1 (z 1).isLt)
      | ⟨2, _⟩ => rfl⟩
    refine (out1_at (ids1 m hb t) (scales1 m hb t) (rows1 m hb t)
      (fun q => ((scaleOf (F := Ideal) (scales m 0) q : EReal)).toReal) (fun k => (segs m 0 (rowIx (cut (segs m 0) t.val * 1000 + k))).toNat)
      (fun z => by obtain ⟨k, rfl⟩ := hx z; rw [blk1_0_at]; exact hb.1 _) (fun k => by rw [blk1_0_at])
      (fun p q h hq => ho.le (by omega) (by omega)) (fun q => ?_) y).trans ?_
    · rw [blk1_1_at, hv]
      unfold scaleOf
      refine congrArg (fun z => (((scales m 0 z : EReal).toReal : ℝ) : EReal)) (congrArg (fun z : Fin 16 => ValueIdx.ix2 z (0 : Fin 1)) (Fin.ext (Nat.mod_eq_of_lt q.isLt).symm))
    · show rows1 m hb t y * (((scaleOf (F := Ideal) (scales m 0) (segs m 0 (rowIx (cut (segs m 0) t.val * 1000 + (y 0).val))).toNat : EReal).toReal : ℝ) : EReal)
        = (rows m 0 (place1 m hb t y) : EReal) * scaleOf (F := Ideal) (scales m 0) (segs m 0 (rowIx (place1 m hb t y 0).val)).toNat
      rw [blk1_2_at, place1_row]
      unfold scaleOf
      rw [← hv]
  · by_cases h : ∃ t : Fin 15, cut (segs m 0) t.val = (i 0).val / 1000
    · obtain ⟨t, ht⟩ := h
      obtain ⟨u, h1, h2⟩ := written m hb t
      exact if_pos ⟨u, h1, covered m hb u i (h2.trans ht)⟩
    · have e : (dat1 (T1 m hb) (W3 (T0 m) m) 0).A 4 i = own (rows m 0) (segs m 0) (scales m 0) i := by
        rw [A_eq1]
        refine (congrFun (v20_eq m 0) i).trans ?_
        rw [W2_self, res0_eq]
        show rows m 0 i * scaleOf (F := Ideal) (scales m 0) (bound (segs m 0) ((i 0).val / 1000)).toNat = rows m 0 i * scaleOf (F := Ideal) (scales m 0) (segs m 0 (rowIx (i 0).val)).toNat
        rw [same_segment hb ho hi fun t ht => h ⟨t, ht⟩]
      rw [e]
      exact ite_self _

end Cert.KernelIdeal.Hand
-- ==== Proof.Values.lean ====
module

public import proofs.«01_k».proof.Proof.Frames
public import proofs.«01_k».proof.Proof.Reference
public import proofs.«01_k».proof.Proof.Ideal.Second

/-! Over the extended reals the kernel and the reference leave the same result, where the segment numbers are in order and
    the scales finite: each row of the data times the scale of its own segment. -/

@[expose] public section

set_option maxRecDepth 16384

namespace Cert.Proof

open Idealize.ShloMosaic Idealize.SL.Sem

/-- What the kernel leaves. -/
theorem kernel_value (m : (ℓ : Loc KernelIdeal.nD KernelIdeal.τ KernelIdeal.sig) → Buf (Elt Ideal) ℓ) (h : Pre_KernelIdeal_ids_sorted m) :
    (KernelIdeal.Hand.res1 (KernelIdeal.Hand.T0 m) (KernelIdeal.Hand.T1 m (range_sorted m h)) m 0 : KernelIdeal.S1000000x64.Idx → EReal)
      = KernelIdeal.Hand.own (KernelIdeal.Hand.rows m 0) (KernelIdeal.Hand.segs m 0) (KernelIdeal.Hand.scales m 0) :=
  KernelIdeal.Hand.res1_eq m (range_sorted m h) (Read.sorted _ _ _ _ (h 0)).2.1 (Read.sorted _ _ _ _ (h 0)).2.2

/-- The reference leaves the same, of the same arguments. -/
theorem reference_value (x : FVec Ideal ReferenceIdeal.S1000000x64 .f32) (b : IVec ReferenceIdeal.S1000000 32) (r : FVec Ideal ReferenceIdeal.S16x1 .f32)
    (hb : ∀ y, (b y).toNat < 16) :
    (mulf x (broadcastInDim ReferenceIdeal.S1000000x64 ![0, 1] ReferenceIdeal.Facts₀.bcast_S1000000x1_S1000000x64_0_1 (ReferenceIdeal.Hand.looked b r)) : ReferenceIdeal.S1000000x64.Idx → EReal)
      = KernelIdeal.Hand.own x b r := funext fun y => by
  have hy : (y 0).val < 1000000 := (y 0).isLt
  have e : KernelIdeal.Hand.rowIx (y 0).val = ValueIdx.ix1 (y 0) := congrArg ValueIdx.ix1 (Fin.ext (Nat.mod_eq_of_lt hy))
  refine (ReferenceIdeal.Hand.result_at b r hb x y).trans ?_
  show _ = (x y : EReal) * KernelIdeal.Hand.scaleOf (F := Ideal) r (b (KernelIdeal.Hand.rowIx (y 0).val)).toNat
  rw [e]
  rfl

theorem values_agree : algebraic_KernelIdeal_ReferenceIdeal_pre_ids_sorted := fun m g m' g' h hargs => by
  refine ⟨fun c => KernelIdeal.Hand.res1 (KernelIdeal.Hand.T0 m) (KernelIdeal.Hand.T1 m (range_sorted m h)) m c, ?_, ?_⟩
  · exact (θ_run _ _ _).mono (fun _ hr => hr.1) (KernelIdeal.Hand.run_launch m (range_sorted m h) g)
  · refine (θ_run _ _ _).mono (fun _ hr c => ⟨(hr c).1.trans ?_, (hr c).2⟩) (ReferenceIdeal.Value.run m' g')
    obtain rfl : c = 0 := Subsingleton.elim _ _
    refine Eq.trans ?_ (kernel_value m h).symm
    rw [(hargs 0).1, (hargs 0).2.1, (hargs 0).2.2.1]
    exact reference_value _ _ _ (range_sorted m h).1

end Cert.Proof
-- ==== Proof.lean ====
module

public import proofs.«01_k».proof.Proof.Values

@[expose] public section

namespace Cert.Proof

theorem claim : Cert.Claim :=
  ⟨Cert.Kernel.Gen.facts, Cert.KernelIdeal.Gen.facts, Cert.ReferenceIdeal.Gen.facts, Cert.Pre_ids_in_range.Gen.facts, Cert.Pre_ids_sorted.Gen.facts,
    frame_bits, frame_ideal, frame_sorted, frame_reference, frame_reference_sorted, trivial, values_agree⟩

end Cert.Proof
